-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel10 (m : (ℓ : Loc Cert.Kernel10.nD Cert.Kernel10.τ Cert.Kernel10.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_v47) = v1 c
          ∧ r.2.mem ((c.tc : Thread Cert.Reference3Ideal.nD Cert.Reference3Ideal.τ).loc Cert.Reference3Ideal.main_v49) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_v35) = v1 c
          ∧ r.2.mem ((c.tc : Thread Cert.Reference8Ideal.nD Cert.Reference8Ideal.τ).loc Cert.Reference8Ideal.main_v37) = v2 c
          ∧ r.2.mem ((c.tc : Thread Cert.Reference8Ideal.nD Cert.Reference8Ideal.τ).loc Cert.Reference8Ideal.main_v34) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v46) = v0 c
          ∧ r.2.mem ((c.tc : Thread Cert.Reference9Ideal.nD Cert.Reference9Ideal.τ).loc Cert.Reference9Ideal.main_v47) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v11_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v11_4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v45) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10Ideal : Cert.Kernel10Ideal.Facts) (hReference10Ideal : Cert.Reference10Ideal.Facts) (hKernel10 : Cert.Kernel10.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10Ideal (hKernel10Ideal := hKernel10Ideal)
    ∧ quiescent_Reference10Ideal (hReference10Ideal := hReference10Ideal)
    ∧ quiescent_Kernel10 (hKernel10 := hKernel10)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Kernel.lean ====
abbrev S8192x5632 : Shape := ⟨2, ![8192, 5632]⟩
abbrev S8192x2048 : Shape := ⟨2, ![8192, 2048]⟩
abbrev S64 : Shape := ⟨1, ![64]⟩
abbrev S16 : Shape := ⟨1, ![16]⟩
abbrev S16x128x128 : Shape := ⟨3, ![16, 128, 128]⟩
abbrev S16x128 : Shape := ⟨2, ![16, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S128x16 : Shape := ⟨2, ![128, 16]⟩
abbrev S128x16x64 : Shape := ⟨3, ![128, 16, 64]⟩
abbrev S128x1024 : Shape := ⟨2, ![128, 1024]⟩
abbrev S128x5632 : Shape := ⟨2, ![128, 5632]⟩
abbrev S128x512 : Shape := ⟨2, ![128, 512]⟩
abbrev S128x2048 : Shape := ⟨2, ![128, 2048]⟩
abbrev S128x128 : Shape := ⟨2, ![128, 128]⟩
abbrev S2048x128 : Shape := ⟨2, ![2048, 128]⟩
abbrev S8x128x256 : Shape := ⟨3, ![8, 128, 256]⟩
abbrev S2048x256 : Shape := ⟨2, ![2048, 256]⟩
abbrev S256x128 : Shape := ⟨2, ![256, 128]⟩
abbrev S1x128x128 : Shape := ⟨3, ![1, 128, 128]⟩
abbrev S128x256 : Shape := ⟨2, ![128, 256]⟩
abbrev S1 : Shape := ⟨1, ![1]⟩
abbrev S128x4096 : Shape := ⟨2, ![128, 4096]⟩
abbrev S256 : Shape := ⟨1, ![256]⟩
abbrev S256x1 : Shape := ⟨2, ![256, 1]⟩
abbrev S128x1 : Shape := ⟨2, ![128, 1]⟩
abbrev S1024x128 : Shape := ⟨2, ![1024, 128]⟩
abbrev S1024x256 : Shape := ⟨2, ![1024, 256]⟩
abbrev S1024x1 : Shape := ⟨2, ![1024, 1]⟩
abbrev S1024 : Shape := ⟨1, ![1024]⟩
abbrev S1x128x256 : Shape := ⟨3, ![1, 128, 256]⟩
abbrev S16x1024 : Shape := ⟨2, ![16, 1024]⟩

abbrev nBuf : Space → Nat
  | .hbm => 25
  | .vmem => 25
  | .smem => 2
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S64, .f32⟩
  | .hbm, ⟨3, _⟩ => ⟨S64, .f32⟩
  | .hbm, ⟨4, _⟩ => ⟨S16, .f32⟩
  | .hbm, ⟨5, _⟩ => ⟨S16x128x128, .f32⟩
  | .hbm, ⟨6, _⟩ => ⟨S16x128, .f32⟩
  | .hbm, ⟨7, _⟩ => ⟨S16, .f32⟩
  | .hbm, ⟨8, _⟩ => ⟨S1x64, .f32⟩
  | .hbm, ⟨9, _⟩ => ⟨S2x64, .f32⟩
  | .hbm, ⟨10, _⟩ => ⟨S128, .f32⟩
  | .hbm, ⟨11, _⟩ => ⟨S1x128, .f32⟩
  | .hbm, ⟨12, _⟩ => ⟨S1x64, .f32⟩
  | .hbm, ⟨13, _⟩ => ⟨S2x64, .f32⟩
  | .hbm, ⟨14, _⟩ => ⟨S128, .f32⟩
  | .hbm, ⟨15, _⟩ => ⟨S1x128, .f32⟩
  | .hbm, ⟨16, _⟩ => ⟨S128x16, .f32⟩
  | .hbm, ⟨17, _⟩ => ⟨S128x16x64, .f32⟩
  | .hbm, ⟨18, _⟩ => ⟨S128x1024, .f32⟩
  | .hbm, ⟨19, _⟩ => ⟨S8192x5632, .bf16⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S16x128x128, .f32⟩
  | .hbm, ⟨24, _⟩ => ⟨S16x128, .f32⟩
  | .local _ .vmem, ⟨0, _⟩ => ⟨S128x5632, .f32⟩
  | .local _ .vmem, ⟨1, _⟩ => ⟨S128x5632, .f32⟩
  | .local _ .vmem, ⟨2, _⟩ => ⟨S128x512, .f32⟩
  | .local _ .vmem, ⟨3, _⟩ => ⟨S128x512, .f32⟩
  | .local _ .vmem, ⟨4, _⟩ => ⟨S128x2048, .f32⟩
  | .local _ .vmem, ⟨5, _⟩ => ⟨S128x2048, .f32⟩
  | .local _ .vmem, ⟨6, _⟩ => ⟨S1x128, .f32⟩
  | .local _ .vmem, ⟨7, _⟩ => ⟨S1x128, .f32⟩
  | .local _ .vmem, ⟨8, _⟩ => ⟨S16x128x128, .f32⟩
  | .local _ .vmem, ⟨9, _⟩ => ⟨S128x1024, .f32⟩
  | .local _ .vmem, ⟨10, _⟩ => ⟨S128x5632, .bf16⟩
  | .local _ .vmem, ⟨11, _⟩ => ⟨S128x5632, .bf16⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S16x128x128, .f32⟩
  | .local _ .vmem, ⟨16, _⟩ => ⟨S16x128, .f32⟩
  | .local _ .vmem, ⟨17, _⟩ => ⟨S128x5632, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x1024, .f32⟩
  | .local _ .vmem, ⟨22, _⟩ => ⟨S2048x128, .bf16⟩
  | .local _ .vmem, ⟨23, _⟩ => ⟨S8x128x256, .bf16⟩
  | .local _ .vmem, ⟨24, _⟩ => ⟨S2048x256, .f32⟩
  | .local _ .smem, ⟨0, _⟩ => ⟨S16, .f32⟩
  | .local _ .smem, ⟨1, _⟩ => ⟨S16, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18

abbrev nD : Nat := 1
abbrev τ : Topo := Topo.v7x

variable {F : FTy → Type} [FloatOps F]

abbrev grid0 : Pipeline.Grid := ⟨1, ![65], ![false]⟩

def k0_cond3 (i : grid0.Coords) : BitVec 1 :=
  let arg0 : BitVec 32 := BitVec.ofNat 32 (i 0).val
  let c64_i32_7 : BitVec 32 := 64#32
  let v22 : BitVec 1 := Scalar.cmpi .slt arg0 c64_i32_7
  let v23 : BitVec 32 := Scalar.extui v22
  let c0_i32_8 : BitVec 32 := 0#32
  let v24 : BitVec 1 := Scalar.cmpi .ne v23 c0_i32_8
  v24

def k0_cond4 (i : grid0.Coords) : BitVec 1 :=
  let arg0 : BitVec 32 := BitVec.ofNat 32 (i 0).val
  let c64_i32_9 : BitVec 32 := 64#32
  let v25 : BitVec 1 := Scalar.cmpi .eq arg0 c64_i32_9
  let v26 : BitVec 32 := Scalar.extui v25
  let c0_i32_10 : BitVec 32 := 0#32
  let v27 : BitVec 1 := Scalar.cmpi .ne v26 c0_i32_10
  v27

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_5 : BitVec 32 := 0#32
  let v18 : BitVec 1 := Scalar.cmpi .ne v17 c0_i32_5
  v18

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Kernel2.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x2048 : Shape := ⟨2, ![2048, 2048]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x2048, .bf16⟩
  | .local _ .vmem, ⟨3, _⟩ => ⟨S2048x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x5632 : Shape := ⟨2, ![8192, 5632]⟩
abbrev S8192x2048 : Shape := ⟨2, ![8192, 2048]⟩
abbrev S1x8192x5632 : Shape := ⟨3, ![1, 8192, 5632]⟩
abbrev S1x8192x2048 : Shape := ⟨3, ![1, 8192, 2048]⟩
abbrev S_ : Shape := ⟨0, ![]⟩
abbrev S2048x5632 : Shape := ⟨2, ![2048, 5632]⟩
abbrev S5632x2048 : Shape := ⟨2, ![5632, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8192x5632, .f32⟩
  | .hbm, ⟨3, _⟩ => ⟨S1x8192x5632, .f32⟩
  | .hbm, ⟨4, _⟩ => ⟨S8192x2048, .f32⟩
  | .hbm, ⟨5, _⟩ => ⟨S1x8192x2048, .f32⟩
  | .hbm, ⟨6, _⟩ => ⟨S_, .f32⟩
  | .hbm, ⟨7, _⟩ => ⟨S2048x5632, .f32⟩
  | .hbm, ⟨8, _⟩ => ⟨S1x8192x5632, .f32⟩
  | .hbm, ⟨9, _⟩ => ⟨S5632x2048, .f32⟩
  | .hbm, ⟨10, _⟩ => ⟨S2048x5632, .f32⟩
  | .hbm, ⟨11, _⟩ => ⟨S5632x2048, .f32⟩
  | .hbm, ⟨12, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel3.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S1x2048 : Shape := ⟨2, ![1, 2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S8192x2048, .f32⟩
  | .hbm, ⟨7, _⟩ => ⟨S1x2048, .f32⟩
  | .hbm, ⟨8, _⟩ => ⟨S8192x2048, .bf16⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S256x2048, .bf16⟩
  | .local _ .vmem, ⟨12, _⟩ => ⟨S256x2048, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S2048x5632 : Shape := ⟨2, ![2048, 5632]⟩
abbrev S1x8192x2048 : Shape := ⟨3, ![1, 8192, 2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x8192x5632 : Shape := ⟨3, ![1, 8192, 5632]⟩
abbrev S1x2048 : Shape := ⟨2, ![1, 2048]⟩
abbrev S8192 : Shape := ⟨1, ![8192]⟩

abbrev nBuf : Space → Nat
  | .hbm => 64
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S5632x2048, .f32⟩
  | .hbm, ⟨6, _⟩ => ⟨S2048x5632, .f32⟩
  | .hbm, ⟨7, _⟩ => ⟨S1x8192x2048, .f32⟩
  | .hbm, ⟨8, _⟩ => ⟨S1x8192x2048, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S_, .f32⟩
  | .hbm, ⟨21, _⟩ => ⟨S1x8192x1, .f32⟩
  | .hbm, ⟨22, _⟩ => ⟨S1x8192x1, .f32⟩
  | .hbm, ⟨23, _⟩ => ⟨S1x8192x2048, .f32⟩
  | .hbm, ⟨24, _⟩ => ⟨S1x8192x2048, .f32⟩
  | .hbm, ⟨25, _⟩ => ⟨S1x1x2048, .f32⟩
  | .hbm, ⟨26, _⟩ => ⟨S1x8192x2048, .f32⟩
  | .hbm, ⟨27, _⟩ => ⟨S1x8192x2048, .f32⟩
  | .hbm, ⟨28, _⟩ => ⟨S1x8192x5632, .f32⟩
  | .hbm, ⟨29, _⟩ => ⟨S1x8192x2048, .f32⟩
  | .hbm, ⟨30, _⟩ => ⟨S8192x5632, .f32⟩
  | .hbm, ⟨31, _⟩ => ⟨S1x8192x5632, .f32⟩
  | .hbm, ⟨32, _⟩ => ⟨S1x8192x2048, .f32⟩
  | .hbm, ⟨33, _⟩ => ⟨S1x8192x2048, .f32⟩
  | .hbm, ⟨34, _⟩ => ⟨S_, .f32⟩
  | .hbm, ⟨35, _⟩ => ⟨S1x2048, .f32⟩
  | .hbm, ⟨36, _⟩ => ⟨S1x1x2048, .f32⟩
  | .hbm, ⟨37, _⟩ => ⟨S1x8192x2048, .f32⟩
  | .hbm, ⟨38, _⟩ => ⟨S1x8192x2048, .f32⟩
  | .hbm, ⟨39, _⟩ => ⟨S_, .f32⟩
  | .hbm, ⟨40, _⟩ => ⟨S2048, .f32⟩
  | .hbm, ⟨41, _⟩ => ⟨S1x8192x2048, .f32⟩
  | .hbm, ⟨42, _⟩ => ⟨S_, .f32⟩
  | .hbm, ⟨43, _⟩ => ⟨S1x8192, .f32⟩
  | .hbm, ⟨44, _⟩ => ⟨S1x8192x1, .f32⟩
  | .hbm, ⟨45, _⟩ => ⟨S1x8192x2048, .f32⟩
  | .hbm, ⟨46, _⟩ => ⟨S1x8192x2048, .f32⟩
  | .hbm, ⟨47, _⟩ => ⟨S1x8192x2048, .f32⟩
  | .hbm, ⟨48, _⟩ => ⟨S1x8192x1, .f32⟩
  | .hbm, ⟨49, _⟩ => ⟨S_, .f32⟩
  | .hbm, ⟨50, _⟩ => ⟨S1x8192x1, .f32⟩
  | .hbm, ⟨51, _⟩ => ⟨S1x8192x1, .f32⟩
  | .hbm, ⟨52, _⟩ => ⟨S_, .f32⟩
  | .hbm, ⟨53, _⟩ => ⟨S8192, .f32⟩
  | .hbm, ⟨54, _⟩ => ⟨S1x8192, .f32⟩
  | .hbm, ⟨55, _⟩ => ⟨S1x8192x2048, .f32⟩
  | .hbm, ⟨56, _⟩ => ⟨S1x8192x2048, .f32⟩
  | .hbm, ⟨57, _⟩ => ⟨S1x8192x2048, .f32⟩
  | .hbm, ⟨58, _⟩ => ⟨S1x8192x2048, .f32⟩
  | .hbm, ⟨59, _⟩ => ⟨S1x8192x2048, .f32⟩
  | .hbm, ⟨60, _⟩ => ⟨S8192x2048, .f32⟩
  | .hbm, ⟨61, _⟩ => ⟨S1x2048, .f32⟩
  | .hbm, ⟨62, _⟩ => ⟨S8192x2048, .f32⟩
  | .hbm, ⟨63, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Kernel4.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x2048, .bf16⟩
  | .local _ .vmem, ⟨5, _⟩ => ⟨S2048x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S8192x2048 : Shape := ⟨2, ![8192, 2048]⟩
abbrev S1x8192x2048 : Shape := ⟨3, ![1, 8192, 2048]⟩
abbrev S_ : Shape := ⟨0, ![]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S1x8192x2048, .f32⟩
  | .hbm, ⟨4, _⟩ => ⟨S8192x2048, .f32⟩
  | .hbm, ⟨5, _⟩ => ⟨S1x8192x2048, .f32⟩
  | .hbm, ⟨6, _⟩ => ⟨S_, .f32⟩
  | .hbm, ⟨7, _⟩ => ⟨S2048x2048, .f32⟩
  | .hbm, ⟨8, _⟩ => ⟨S1x8192x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8192x2048 : Shape := ⟨2, ![8192, 2048]⟩
abbrev S2048x2048 : Shape := ⟨2, ![2048, 2048]⟩
abbrev S1x8192x2048 : Shape := ⟨3, ![1, 8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S2048x2048, .f32⟩
  | .hbm, ⟨3, _⟩ => ⟨S8192x2048, .f32⟩
  | .hbm, ⟨4, _⟩ => ⟨S1x8192x2048, .f32⟩
  | .hbm, ⟨5, _⟩ => ⟨S_, .f32⟩
  | .hbm, ⟨6, _⟩ => ⟨S1x8192x2048, .f32⟩
  | .hbm, ⟨7, _⟩ => ⟨S1x8192x2048, .f32⟩
  | .hbm, ⟨8, _⟩ => ⟨S1x8192x2048, .f32⟩
  | .hbm, ⟨9, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x2048 : Shape := ⟨2, ![8192, 2048]⟩
abbrev S2048 : Shape := ⟨1, ![2048]⟩
abbrev S5632x2048 : Shape := ⟨2, ![5632, 2048]⟩
abbrev S1x2048 : Shape := ⟨2, ![1, 2048]⟩
abbrev S8192x5632 : Shape := ⟨2, ![8192, 5632]⟩
abbrev S256x2048 : Shape := ⟨2, ![256, 2048]⟩
abbrev S256x5632 : Shape := ⟨2, ![256, 5632]⟩
abbrev S256 : Shape := ⟨1, ![256]⟩
abbrev S256x1 : Shape := ⟨2, ![256, 1]⟩
abbrev S512x2048 : Shape := ⟨2, ![512, 2048]⟩
abbrev S256x512 : Shape := ⟨2, ![256, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S5632x2048, .bf16⟩
  | .hbm, ⟨3, _⟩ => ⟨S1x2048, .f32⟩
  | .hbm, ⟨4, _⟩ => ⟨S8192x2048, .bf16⟩
  | .hbm, ⟨5, _⟩ => ⟨S8192x5632, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S5632x2048, .bf16⟩
  | .local _ .vmem, ⟨4, _⟩ => ⟨S256x2048, .bf16⟩
  | .local _ .vmem, ⟨5, _⟩ => ⟨S256x2048, .bf16⟩
  | .local _ .vmem, ⟨6, _⟩ => ⟨S256x5632, .f32⟩
  | .local _ .vmem, ⟨7, _⟩ => ⟨S256x5632, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8192x2048 : Shape := ⟨2, ![8192, 2048]⟩
abbrev S2048 : Shape := ⟨1, ![2048]⟩
abbrev S5632x2048 : Shape := ⟨2, ![5632, 2048]⟩
abbrev S1x8192x2048 : Shape := ⟨3, ![1, 8192, 2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S2048x5632 : Shape := ⟨2, ![2048, 5632]⟩
abbrev S1x8192x5632 : Shape := ⟨3, ![1, 8192, 5632]⟩
abbrev S8192x5632 : Shape := ⟨2, ![8192, 5632]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S5632x2048, .bf16⟩
  | .hbm, ⟨3, _⟩ => ⟨S1x8192x2048, .f32⟩
  | .hbm, ⟨4, _⟩ => ⟨S1x8192x2048, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x2048, .f32⟩
  | .hbm, ⟨16, _⟩ => ⟨S1x8192x2048, .f32⟩
  | .hbm, ⟨17, _⟩ => ⟨S1x1x2048, .f32⟩
  | .hbm, ⟨18, _⟩ => ⟨S1x8192x2048, .f32⟩
  | .hbm, ⟨19, _⟩ => ⟨S1x8192x2048, .f32⟩
  | .hbm, ⟨20, _⟩ => ⟨S8192x2048, .f32⟩
  | .hbm, ⟨21, _⟩ => ⟨S8192x2048, .bf16⟩
  | .hbm, ⟨22, _⟩ => ⟨S5632x2048, .f32⟩
  | .hbm, ⟨23, _⟩ => ⟨S2048x5632, .f32⟩
  | .hbm, ⟨24, _⟩ => ⟨S1x8192x5632, .f32⟩
  | .hbm, ⟨25, _⟩ => ⟨S8192x5632, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel7.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8192x2048 : Shape := ⟨2, ![8192, 2048]⟩
abbrev S2048x2048 : Shape := ⟨2, ![2048, 2048]⟩
abbrev S1x8192x2048 : Shape := ⟨3, ![1, 8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x8192x2048, .f32⟩
  | .hbm, ⟨4, _⟩ => ⟨S8192x2048, .f32⟩
  | .hbm, ⟨5, _⟩ => ⟨S1x8192x2048, .f32⟩
  | .hbm, ⟨6, _⟩ => ⟨S2048x2048, .f32⟩
  | .hbm, ⟨7, _⟩ => ⟨S1x8192x2048, .f32⟩
  | .hbm, ⟨8, _⟩ => ⟨S1x8192x2048, .f32⟩
  | .hbm, ⟨9, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S2048 : Shape := ⟨1, ![2048]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .hbm, ⟨7, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S8192x2048 : Shape := ⟨2, ![8192, 2048]⟩
abbrev S2048x2048 : Shape := ⟨2, ![2048, 2048]⟩
abbrev S1x8192x2048 : Shape := ⟨3, ![1, 8192, 2048]⟩
abbrev S_ : Shape := ⟨0, ![]⟩
abbrev S1x8192 : Shape := ⟨2, ![1, 8192]⟩
abbrev S2048 : Shape := ⟨1, ![2048]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S2048x2048, .f32⟩
  | .hbm, ⟨6, _⟩ => ⟨S1x8192x2048, .f32⟩
  | .hbm, ⟨7, _⟩ => ⟨S1x8192x2048, .f32⟩
  | .hbm, ⟨8, _⟩ => ⟨S1x8192x2048, .f32⟩
  | .hbm, ⟨9, _⟩ => ⟨S1x8192x2048, .f32⟩
  | .hbm, ⟨10, _⟩ => ⟨S1x8192x2048, .f32⟩
  | .hbm, ⟨11, _⟩ => ⟨S1x8192x2048, .f32⟩
  | .hbm, ⟨12, _⟩ => ⟨S1x8192x2048, .f32⟩
  | .hbm, ⟨13, _⟩ => ⟨S_, .f32⟩
  | .hbm, ⟨14, _⟩ => ⟨S1x8192x2048, .f32⟩
  | .hbm, ⟨15, _⟩ => ⟨S1x8192x2048, .f32⟩
  | .hbm, ⟨16, _⟩ => ⟨S_, .f32⟩
  | .hbm, ⟨17, _⟩ => ⟨S1x8192, .f32⟩
  | .hbm, ⟨18, _⟩ => ⟨S_, .f32⟩
  | .hbm, ⟨19, _⟩ => ⟨S1x8192, .f32⟩
  | .hbm, ⟨20, _⟩ => ⟨S1x8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1x8192, .f32⟩
  | .hbm, ⟨29, _⟩ => ⟨S_, .f32⟩
  | .hbm, ⟨30, _⟩ => ⟨S1x8192, .f32⟩
  | .hbm, ⟨31, _⟩ => ⟨S1x8192, .f32⟩
  | .hbm, ⟨32, _⟩ => ⟨S1x8192x2048, .f32⟩
  | .hbm, ⟨33, _⟩ => ⟨S1x8192x2048, .f32⟩
  | .hbm, ⟨34, _⟩ => ⟨S_, .f32⟩
  | .hbm, ⟨35, _⟩ => ⟨S8192x2048, .f32⟩
  | .hbm, ⟨36, _⟩ => ⟨S1x8192x2048, .f32⟩
  | .hbm, ⟨37, _⟩ => ⟨S1x8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S1x8192x2048, .f32⟩
  | .hbm, ⟨43, _⟩ => ⟨S1x8192x2048, .f32⟩
  | .hbm, ⟨44, _⟩ => ⟨S8192x2048, .f32⟩
  | .hbm, ⟨45, _⟩ => ⟨S1x8192x2048, .f32⟩
  | .hbm, ⟨46, _⟩ => ⟨S1x8192x2048, .f32⟩
  | .hbm, ⟨47, _⟩ => ⟨S_, .f32⟩
  | .hbm, ⟨48, _⟩ => ⟨S8192x2048, .f32⟩
  | .hbm, ⟨49, _⟩ => ⟨S8192x2048, .bf16⟩
  | .hbm, ⟨50, _⟩ => ⟨S_, .f32⟩
  | .hbm, ⟨51, _⟩ => ⟨S2048, .f32⟩
  | .hbm, ⟨52, _⟩ => ⟨S1x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Kernel9.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S1x2048 : Shape := ⟨2, ![1, 2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S8192x2048, .f32⟩
  | .hbm, ⟨7, _⟩ => ⟨S1x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S2048x5632 : Shape := ⟨2, ![2048, 5632]⟩
abbrev S1x8192x2048 : Shape := ⟨3, ![1, 8192, 2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x8192x5632 : Shape := ⟨3, ![1, 8192, 5632]⟩
abbrev S1x2048 : Shape := ⟨2, ![1, 2048]⟩
abbrev S8192 : Shape := ⟨1, ![8192]⟩

abbrev nBuf : Space → Nat
  | .hbm => 64
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S5632x2048, .f32⟩
  | .hbm, ⟨6, _⟩ => ⟨S2048x5632, .f32⟩
  | .hbm, ⟨7, _⟩ => ⟨S1x8192x2048, .f32⟩
  | .hbm, ⟨8, _⟩ => ⟨S1x8192x2048, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S_, .f32⟩
  | .hbm, ⟨21, _⟩ => ⟨S1x8192x1, .f32⟩
  | .hbm, ⟨22, _⟩ => ⟨S1x8192x1, .f32⟩
  | .hbm, ⟨23, _⟩ => ⟨S1x8192x2048, .f32⟩
  | .hbm, ⟨24, _⟩ => ⟨S1x8192x2048, .f32⟩
  | .hbm, ⟨25, _⟩ => ⟨S1x1x2048, .f32⟩
  | .hbm, ⟨26, _⟩ => ⟨S1x8192x2048, .f32⟩
  | .hbm, ⟨27, _⟩ => ⟨S1x8192x2048, .f32⟩
  | .hbm, ⟨28, _⟩ => ⟨S1x8192x5632, .f32⟩
  | .hbm, ⟨29, _⟩ => ⟨S1x8192x2048, .f32⟩
  | .hbm, ⟨30, _⟩ => ⟨S8192x5632, .f32⟩
  | .hbm, ⟨31, _⟩ => ⟨S1x8192x5632, .f32⟩
  | .hbm, ⟨32, _⟩ => ⟨S1x8192x2048, .f32⟩
  | .hbm, ⟨33, _⟩ => ⟨S1x8192x2048, .f32⟩
  | .hbm, ⟨34, _⟩ => ⟨S_, .f32⟩
  | .hbm, ⟨35, _⟩ => ⟨S1x2048, .f32⟩
  | .hbm, ⟨36, _⟩ => ⟨S1x1x2048, .f32⟩
  | .hbm, ⟨37, _⟩ => ⟨S1x8192x2048, .f32⟩
  | .hbm, ⟨38, _⟩ => ⟨S1x8192x2048, .f32⟩
  | .hbm, ⟨39, _⟩ => ⟨S_, .f32⟩
  | .hbm, ⟨40, _⟩ => ⟨S2048, .f32⟩
  | .hbm, ⟨41, _⟩ => ⟨S1x8192x2048, .f32⟩
  | .hbm, ⟨42, _⟩ => ⟨S_, .f32⟩
  | .hbm, ⟨43, _⟩ => ⟨S1x8192, .f32⟩
  | .hbm, ⟨44, _⟩ => ⟨S1x8192x1, .f32⟩
  | .hbm, ⟨45, _⟩ => ⟨S1x8192x2048, .f32⟩
  | .hbm, ⟨46, _⟩ => ⟨S1x8192x2048, .f32⟩
  | .hbm, ⟨47, _⟩ => ⟨S1x8192x2048, .f32⟩
  | .hbm, ⟨48, _⟩ => ⟨S1x8192x1, .f32⟩
  | .hbm, ⟨49, _⟩ => ⟨S_, .f32⟩
  | .hbm, ⟨50, _⟩ => ⟨S1x8192x1, .f32⟩
  | .hbm, ⟨51, _⟩ => ⟨S1x8192x1, .f32⟩
  | .hbm, ⟨52, _⟩ => ⟨S_, .f32⟩
  | .hbm, ⟨53, _⟩ => ⟨S8192, .f32⟩
  | .hbm, ⟨54, _⟩ => ⟨S1x8192, .f32⟩
  | .hbm, ⟨55, _⟩ => ⟨S1x8192x2048, .f32⟩
  | .hbm, ⟨56, _⟩ => ⟨S1x8192x2048, .f32⟩
  | .hbm, ⟨57, _⟩ => ⟨S1x8192x2048, .f32⟩
  | .hbm, ⟨58, _⟩ => ⟨S1x8192x2048, .f32⟩
  | .hbm, ⟨59, _⟩ => ⟨S1x8192x2048, .f32⟩
  | .hbm, ⟨60, _⟩ => ⟨S8192x2048, .f32⟩
  | .hbm, ⟨61, _⟩ => ⟨S1x2048, .f32⟩
  | .hbm, ⟨62, _⟩ => ⟨S8192x2048, .f32⟩
  | .hbm, ⟨63, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Reference10Ideal.lean ====
abbrev S8192x5632 : Shape := ⟨2, ![8192, 5632]⟩
abbrev S8192x2048 : Shape := ⟨2, ![8192, 2048]⟩
abbrev S64 : Shape := ⟨1, ![64]⟩
abbrev S16 : Shape := ⟨1, ![16]⟩
abbrev S16x128x128 : Shape := ⟨3, ![16, 128, 128]⟩
abbrev S16x128 : Shape := ⟨2, ![16, 128]⟩
abbrev S1x8192x5632 : Shape := ⟨3, ![1, 8192, 5632]⟩
abbrev S1x8192x1024 : Shape := ⟨3, ![1, 8192, 1024]⟩
abbrev S1x8192x256 : Shape := ⟨3, ![1, 8192, 256]⟩
abbrev S_ : Shape := ⟨0, ![]⟩
abbrev S1x8192x16x64 : Shape := ⟨4, ![1, 8192, 16, 64]⟩
abbrev S1x64x128x16x64 : Shape := ⟨5, ![1, 64, 128, 16, 64]⟩
abbrev S128x128 : Shape := ⟨2, ![128, 128]⟩
abbrev S16x1x64x64x128 : Shape := ⟨5, ![16, 1, 64, 64, 128]⟩
abbrev S128x16 : Shape := ⟨2, ![128, 16]⟩
abbrev S1x1x128x16x1 : Shape := ⟨5, ![1, 1, 128, 16, 1]⟩
abbrev S8192x1024 : Shape := ⟨2, ![8192, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S64, .f32⟩
  | .hbm, ⟨3, _⟩ => ⟨S64, .f32⟩
  | .hbm, ⟨4, _⟩ => ⟨S16, .f32⟩
  | .hbm, ⟨5, _⟩ => ⟨S16x128x128, .f32⟩
  | .hbm, ⟨6, _⟩ => ⟨S16x128, .f32⟩
  | .hbm, ⟨7, _⟩ => ⟨S1x8192x5632, .f32⟩
  | .hbm, ⟨8, _⟩ => ⟨S1x8192x1024, .f32⟩
  | .hbm, ⟨9, _⟩ => ⟨S1x8192x256, .f32⟩
  | .hbm, ⟨10, _⟩ => ⟨S1x8192x256, .f32⟩
  | .hbm, ⟨11, _⟩ => ⟨S1x8192x1024, .f32⟩
  | .hbm, ⟨12, _⟩ => ⟨S1x8192x1024, .f32⟩
  | .hbm, ⟨13, _⟩ => ⟨S1x8192x1024, .f32⟩
  | .hbm, ⟨14, _⟩ => ⟨S1x8192x1024, .f32⟩
  | .hbm, ⟨15, _⟩ => ⟨S_, .f32⟩
  | .hbm, ⟨16, _⟩ => ⟨S1x8192x1024, .f32⟩
  | .hbm, ⟨17, _⟩ => ⟨S1x8192x1024, .f32⟩
  | .hbm, ⟨18, _⟩ => ⟨S1x8192x1024, .f32⟩
  | .hbm, ⟨19, _⟩ => ⟨S_, .f32⟩
  | .hbm, ⟨20, _⟩ => ⟨S1x8192x1024, .f32⟩
  | .hbm, ⟨21, _⟩ => ⟨S1x8192x1024, .f32⟩
  | .hbm, ⟨22, _⟩ => ⟨S1x8192x1024, .f32⟩
  | .hbm, ⟨23, _⟩ => ⟨S1x8192x1024, .f32⟩
  | .hbm, ⟨24, _⟩ => ⟨S1x8192x16x64, .f32⟩
  | .hbm, ⟨25, _⟩ => ⟨S_, .f32⟩
  | .hbm, ⟨26, _⟩ => ⟨S1x8192x1024, .f32⟩
  | .hbm, ⟨27, _⟩ => ⟨S1x8192x1024, .f32⟩
  | .hbm, ⟨28, _⟩ => ⟨S1x8192x1024, .f32⟩
  | .hbm, ⟨29, _⟩ => ⟨S_, .f32⟩
  | .hbm, ⟨30, _⟩ => ⟨S1x8192x1024, .f32⟩
  | .hbm, ⟨31, _⟩ => ⟨S1x8192x1024, .f32⟩
  | .hbm, ⟨32, _⟩ => ⟨S1x8192x1024, .f32⟩
  | .hbm, ⟨33, _⟩ => ⟨S1x8192x1024, .f32⟩
  | .hbm, ⟨34, _⟩ => ⟨S1x8192x16x64, .f32⟩
  | .hbm, ⟨35, _⟩ => ⟨S1x64x128x16x64, .f32⟩
  | .hbm, ⟨36, _⟩ => ⟨S128x128, .i32⟩
  | .hbm, ⟨37, _⟩ => ⟨S_, .i32⟩
  | .hbm, ⟨38, _⟩ => ⟨S128x128, .i32⟩
  | .hbm, ⟨39, _⟩ => ⟨S128x128, .i32⟩
  | .hbm, ⟨40, _⟩ => ⟨S128x128, .i32⟩
  | .hbm, ⟨41, _⟩ => ⟨S128x128, .i1⟩
  | .hbm, ⟨42, _⟩ => ⟨S16x128x128, .i1⟩
  | .hbm, ⟨43, _⟩ => ⟨S_, .f32⟩
  | .hbm, ⟨44, _⟩ => ⟨S16x128x128, .f32⟩
  | .hbm, ⟨45, _⟩ => ⟨S16x128x128, .f32⟩
  | .hbm, ⟨46, _⟩ => ⟨S_, .f32⟩
  | .hbm, ⟨47, _⟩ => ⟨S16x128x128, .f32⟩
  | .hbm, ⟨48, _⟩ => ⟨S16x1x64x64x128, .f32⟩
  | .hbm, ⟨49, _⟩ => ⟨S1x64x128x16x64, .f32⟩
  | .hbm, ⟨50, _⟩ => ⟨S128x16, .f32⟩
  | .hbm, ⟨51, _⟩ => ⟨S1x1x128x16x1, .f32⟩
  | .hbm, ⟨52, _⟩ => ⟨S1x64x128x16x64, .f32⟩
  | .hbm, ⟨53, _⟩ => ⟨S1x64x128x16x64, .f32⟩
  | .hbm, ⟨54, _⟩ => ⟨S1x8192x16x64, .f32⟩
  | .hbm, ⟨55, _⟩ => ⟨S1x8192x16x64, .f32⟩
  | .hbm, ⟨56, _⟩ => ⟨S1x8192x1024, .f32⟩
  | .hbm, ⟨57, _⟩ => ⟨S1x8192x1024, .f32⟩
  | .hbm, ⟨58, _⟩ => ⟨S1x8192x1024, .f32⟩
  | .hbm, ⟨59, _⟩ => ⟨S_, .f32⟩
  | .hbm, ⟨60, _⟩ => ⟨S1x8192x1024, .f32⟩
  | .hbm, ⟨61, _⟩ => ⟨S1x8192x1024, .f32⟩
  | .hbm, ⟨62, _⟩ => ⟨S_, .f32⟩
  | .hbm, ⟨63, _⟩ => ⟨S1x8192x1024, .f32⟩
  | .hbm, ⟨64, _⟩ => ⟨S1x8192x1024, .f32⟩
  | .hbm, ⟨65, _⟩ => ⟨S1x8192x1024, .f32⟩
  | .hbm, ⟨66, _⟩ => ⟨S1x8192x1024, .f32⟩
  | .hbm, ⟨67, _⟩ => ⟨S8192x1024, .f32⟩
  | .hbm, ⟨68, _⟩ => ⟨S1x8192x1024, .f32⟩
  | .hbm, ⟨69, _⟩ => ⟨S1x8192x1024, .f32⟩
  | .hbm, ⟨70, _⟩ => ⟨S1x8192x16x64, .f32⟩
  | .hbm, ⟨71, _⟩ => ⟨S1x8192x16x64, .f32⟩
  | .hbm, ⟨72, _⟩ => ⟨S1x64x128x16x64, .f32⟩
  | .hbm, ⟨73, _⟩ => ⟨S16x1x64x64x128, .f32⟩
  | .hbm, ⟨74, _⟩ => ⟨S16x128x128, .f32⟩
  | .hbm, ⟨75, _⟩ => ⟨S_, .f32⟩
  | .hbm, ⟨76, _⟩ => ⟨S16x128x128, .f32⟩
  | .hbm, ⟨77, _⟩ => ⟨S16x128x128, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v25_1 : Ref sig .tc := ⟨.hbm, 42, rfl⟩
abbrev main_call0_cst : Ref sig .tc := ⟨.hbm, 43, rfl⟩
abbrev main_call0_v6 : Ref sig .tc := ⟨.hbm, 44, rfl⟩
abbrev main_v25_0 : Ref sig .tc := ⟨.hbm, 45, rfl⟩
abbrev main_call0_cst_0 : Ref sig .tc := ⟨.hbm, 46, rfl⟩
abbrev main_v25_2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call2_cst : Ref sig .tc := ⟨.hbm, 75, rfl⟩
abbrev main_call2_v0 : Ref sig .tc := ⟨.hbm, 76, rfl⟩
abbrev main_v45 : Ref sig .tc := ⟨.hbm, 77, rfl⟩

abbrev nD : Nat := 1
abbrev τ : Topo := Topo.v7x

variable {F : FTy → Type} [FloatOps F]
-- ==== Kernel10.lean ====
abbrev S8192x5632 : Shape := ⟨2, ![8192, 5632]⟩
abbrev S8192x2048 : Shape := ⟨2, ![8192, 2048]⟩
abbrev S64 : Shape := ⟨1, ![64]⟩
abbrev S16 : Shape := ⟨1, ![16]⟩
abbrev S16x128x128 : Shape := ⟨3, ![16, 128, 128]⟩
abbrev S16x128 : Shape := ⟨2, ![16, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S128x16 : Shape := ⟨2, ![128, 16]⟩
abbrev S128x16x64 : Shape := ⟨3, ![128, 16, 64]⟩
abbrev S128x1024 : Shape := ⟨2, ![128, 1024]⟩
abbrev S128x5632 : Shape := ⟨2, ![128, 5632]⟩
abbrev S128x512 : Shape := ⟨2, ![128, 512]⟩
abbrev S128x2048 : Shape := ⟨2, ![128, 2048]⟩
abbrev S128x128 : Shape := ⟨2, ![128, 128]⟩
abbrev S2048x128 : Shape := ⟨2, ![2048, 128]⟩
abbrev S8x128x256 : Shape := ⟨3, ![8, 128, 256]⟩
abbrev S2048x256 : Shape := ⟨2, ![2048, 256]⟩
abbrev S256x128 : Shape := ⟨2, ![256, 128]⟩
abbrev S1x128x128 : Shape := ⟨3, ![1, 128, 128]⟩
abbrev S128x256 : Shape := ⟨2, ![128, 256]⟩
abbrev S1 : Shape := ⟨1, ![1]⟩
abbrev S128x4096 : Shape := ⟨2, ![128, 4096]⟩
abbrev S256 : Shape := ⟨1, ![256]⟩
abbrev S256x1 : Shape := ⟨2, ![256, 1]⟩
abbrev S128x1 : Shape := ⟨2, ![128, 1]⟩
abbrev S1024x128 : Shape := ⟨2, ![1024, 128]⟩
abbrev S1024x256 : Shape := ⟨2, ![1024, 256]⟩
abbrev S1024x1 : Shape := ⟨2, ![1024, 1]⟩
abbrev S1024 : Shape := ⟨1, ![1024]⟩
abbrev S1x128x256 : Shape := ⟨3, ![1, 128, 256]⟩
abbrev S16x1024 : Shape := ⟨2, ![16, 1024]⟩

abbrev nBuf : Space → Nat
  | .hbm => 25
  | .vmem => 25
  | .smem => 2
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S64, .f32⟩
  | .hbm, ⟨3, _⟩ => ⟨S64, .f32⟩
  | .hbm, ⟨4, _⟩ => ⟨S16, .f32⟩
  | .hbm, ⟨5, _⟩ => ⟨S16x128x128, .f32⟩
  | .hbm, ⟨6, _⟩ => ⟨S16x128, .f32⟩
  | .hbm, ⟨7, _⟩ => ⟨S16, .f32⟩
  | .hbm, ⟨8, _⟩ => ⟨S1x64, .f32⟩
  | .hbm, ⟨9, _⟩ => ⟨S2x64, .f32⟩
  | .hbm, ⟨10, _⟩ => ⟨S128, .f32⟩
  | .hbm, ⟨11, _⟩ => ⟨S1x128, .f32⟩
  | .hbm, ⟨12, _⟩ => ⟨S1x64, .f32⟩
  | .hbm, ⟨13, _⟩ => ⟨S2x64, .f32⟩
  | .hbm, ⟨14, _⟩ => ⟨S128, .f32⟩
  | .hbm, ⟨15, _⟩ => ⟨S1x128, .f32⟩
  | .hbm, ⟨16, _⟩ => ⟨S128x16, .f32⟩
  | .hbm, ⟨17, _⟩ => ⟨S128x16x64, .f32⟩
  | .hbm, ⟨18, _⟩ => ⟨S128x1024, .f32⟩
  | .hbm, ⟨19, _⟩ => ⟨S8192x5632, .bf16⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S16x128x128, .f32⟩
  | .hbm, ⟨24, _⟩ => ⟨S16x128, .f32⟩
  | .local _ .vmem, ⟨0, _⟩ => ⟨S128x5632, .f32⟩
  | .local _ .vmem, ⟨1, _⟩ => ⟨S128x5632, .f32⟩
  | .local _ .vmem, ⟨2, _⟩ => ⟨S128x512, .f32⟩
  | .local _ .vmem, ⟨3, _⟩ => ⟨S128x512, .f32⟩
  | .local _ .vmem, ⟨4, _⟩ => ⟨S128x2048, .f32⟩
  | .local _ .vmem, ⟨5, _⟩ => ⟨S128x2048, .f32⟩
  | .local _ .vmem, ⟨6, _⟩ => ⟨S1x128, .f32⟩
  | .local _ .vmem, ⟨7, _⟩ => ⟨S1x128, .f32⟩
  | .local _ .vmem, ⟨8, _⟩ => ⟨S16x128x128, .f32⟩
  | .local _ .vmem, ⟨9, _⟩ => ⟨S128x1024, .f32⟩
  | .local _ .vmem, ⟨10, _⟩ => ⟨S128x5632, .bf16⟩
  | .local _ .vmem, ⟨11, _⟩ => ⟨S128x5632, .bf16⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S16x128x128, .f32⟩
  | .local _ .vmem, ⟨16, _⟩ => ⟨S16x128, .f32⟩
  | .local _ .vmem, ⟨17, _⟩ => ⟨S128x5632, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x1024, .f32⟩
  | .local _ .vmem, ⟨22, _⟩ => ⟨S2048x128, .bf16⟩
  | .local _ .vmem, ⟨23, _⟩ => ⟨S8x128x256, .bf16⟩
  | .local _ .vmem, ⟨24, _⟩ => ⟨S2048x256, .f32⟩
  | .local _ .smem, ⟨0, _⟩ => ⟨S16, .f32⟩
  | .local _ .smem, ⟨1, _⟩ => ⟨S16, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18

abbrev nD : Nat := 1
abbrev τ : Topo := Topo.v7x

variable {F : FTy → Type} [FloatOps F]

abbrev grid0 : Pipeline.Grid := ⟨1, ![65], ![false]⟩

def k0_cond3 (i : grid0.Coords) : BitVec 1 :=
  let arg0 : BitVec 32 := BitVec.ofNat 32 (i 0).val
  let c64_i32_7 : BitVec 32 := 64#32
  let v22 : BitVec 1 := Scalar.cmpi .slt arg0 c64_i32_7
  let v23 : BitVec 32 := Scalar.extui v22
  let c0_i32_8 : BitVec 32 := 0#32
  let v24 : BitVec 1 := Scalar.cmpi .ne v23 c0_i32_8
  v24

def k0_cond4 (i : grid0.Coords) : BitVec 1 :=
  let arg0 : BitVec 32 := BitVec.ofNat 32 (i 0).val
  let c64_i32_9 : BitVec 32 := 64#32
  let v25 : BitVec 1 := Scalar.cmpi .eq arg0 c64_i32_9
  let v26 : BitVec 32 := Scalar.extui v25
  let c0_i32_10 : BitVec 32 := 0#32
  let v27 : BitVec 1 := Scalar.cmpi .ne v26 c0_i32_10
  v27

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_5 : BitVec 32 := 0#32
  let v18 : BitVec 1 := Scalar.cmpi .ne v17 c0_i32_5
  v18

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Proof.Blocks.lean ====
module

public import Idealize.ShloMosaic.Lib.Pointwise

/-! A sum over `a * b` positions, taken block by block. -/

@[expose] public section

namespace Cert.Blocks

theorem sum_range_blocks {M : Type} [AddCommMonoid M] (T : ℕ → M) (b : ℕ) :
    ∀ a : ℕ, ∑ s ∈ Finset.range a, ∑ k : Fin b, T (b * s + k.val) = ∑ n ∈ Finset.range (a * b), T n
  | 0 => by simp
  | a + 1 => by
    rw [Finset.sum_range_succ, sum_range_blocks T b a, Nat.succ_mul, Finset.sum_range_add, Finset.sum_range, Nat.mul_comm b a]
    congr 1
    rw [Finset.sum_range]

end Cert.Blocks

end
-- ==== Proof.DwIn.lean ====
module

public import proofs.«01_k».proof.Defs
public import proofs.«01_k».proof.Proof.Blocks
public import proofs.«01_k».proof.Proof.Gen.Kernel2Ideal.Value
public import proofs.«01_k».proof.Proof.Gen.Reference2Ideal.Run
public import Idealize.ShloMosaic.Lib.Pointwise
public import Idealize.ShloMosaic.Lib.TwoAxisContraction

/-!
The weight gradient of the input projection, `dproj.T @ h`: four blocks of 1408 rows of the result, each the sum over
four blocks of 2048 tokens, kept in an accumulator and written at the last. The sum over the blocks is the sum over all
the tokens, which is the gradient of `project_in`.
-/

@[expose] public section

set_option maxRecDepth 16384

noncomputable section

namespace Cert.Kernel2Ideal.DwIn

open Idealize.ShloMosaic Idealize.ShloMosaic.TcCoe Idealize.ShloMosaic.Tactic
open Idealize.SL.Sem
open Cert.Kernel2Ideal Cert.Kernel2Ideal.Gen Cert.Kernel2Ideal.Value

variable (m : (ℓ : Loc nD τ sig) → Buf (Elt Ideal) ℓ)

theorem hz : (![0, 0] : Fin 2 → Nat) = fun _ => 0 := funext fun a => by fin_cases a <;> rfl

/-! ## What one grid point leaves -/

/-- The step: the accumulator plus the product of the point's two blocks. -/
theorem pay2_apply (acc : Vec Ideal S1408x2048 .f32) (x0 : Vec Ideal S2048x1408 .bf16) (x1 : Vec Ideal S2048x2048 .bf16) (r : Fin 1408) (l : Fin 2048) :
    k0_pay2 acc x0 x1 (ix2 r l) = acc (ix2 r l) + ∑ k : Fin 2048, x0 (ix2 k r) * x1 (ix2 k l) := by
  pointwise [k0_pay2]

theorem pay1_apply (r : Fin 1408) (l : Fin 2048) : (k0_pay1 (F := Ideal)) (ix2 r l) = 0 := by
  pointwise [k0_pay1]

theorem pay3_eq (acc : Vec Ideal S1408x2048 .f32) : k0_pay3 acc = acc := rfl

section
variable (c : Dev nD) (i : grid0.Coords) (arg2 : Memref sig .tc .vmem S2048x1408 .bf16) (harg2 : arg2.IsWhole)
  (arg3 : Memref sig .tc .vmem S2048x2048 .bf16) (harg3 : arg3.IsWhole) (arg4 : Memref sig .tc .vmem S1408x2048 .bf16) (harg4 : arg4.IsWhole)
  (arg5 : Memref sig .tc .vmem S1408x2048 .f32) (harg5 : arg5.IsWhole)
  (x0 : Vec Ideal S2048x1408 .bf16) (x1 : Vec Ideal S2048x2048 .bf16) (xs0 : Vec Ideal S1408x2048 .f32)

theorem sout_A (hc0 : cond0_0 i) (hc1 : ¬cond0_1 i) :
    sout0_A_0 c i arg2 harg2 arg3 harg3 arg4 harg4 arg5 harg5 hc0 hc1 x0 x1 = k0_pay2 (k0_pay1 (F := Ideal)) x0 x1 := by
  unfold sout0_A_0
  rw [View.read_writes_eq_canon _ _ _ (scover0_A_0 c i arg2 harg2 arg3 harg3 arg4 harg4 arg5 harg5 hc0 hc1 x0 x1)]
  unfold kernelRun0_A; dsimp only; sl_unfold_words
  rw [View.canon_cons_unit_zero (S := S1408x2048) hz]
  simp only [View.readAt_eq_ld, harg2.read_unread, harg3.read_unread, View.ld_unit_zero (S := S2048x1408) hz, View.ld_unit_zero (S := S2048x2048) hz,
    View.readCov_unit_zero (S := S1408x2048) _ hz]

theorem sout_B (hc0 : ¬cond0_0 i) (hc1 : ¬cond0_1 i) :
    sout0_B_0 c i arg2 harg2 arg3 harg3 arg4 harg4 arg5 harg5 hc0 hc1 x0 x1 xs0 = k0_pay2 xs0 x0 x1 := by
  unfold sout0_B_0
  rw [View.read_writes_eq_canon _ _ _ (scover0_B_0 c i arg2 harg2 arg3 harg3 arg4 harg4 arg5 harg5 hc0 hc1 x0 x1 xs0)]
  unfold kernelRun0_B; dsimp only; sl_unfold_words
  rw [View.canon_unit_zero (S := S1408x2048) hz]
  simp only [View.readAt_eq_ld, harg2.read_unread, harg3.read_unread, harg5.read_unread, View.ld_unit_zero (S := S2048x1408) hz, View.ld_unit_zero (S := S2048x2048) hz,
    View.ld_unit_zero (S := S1408x2048) hz]

theorem out_C (hc0 : ¬cond0_0 i) (hc1 : cond0_1 i) :
    out0_C_2 c i arg2 harg2 arg3 harg3 arg4 harg4 arg5 harg5 hc0 hc1 x0 x1 xs0 = k0_pay3 (k0_pay2 xs0 x0 x1) := by
  unfold out0_C_2
  rw [View.read_writes_eq_canon _ _ _ (cover0_C_2 c i arg2 harg2 arg3 harg3 arg4 harg4 arg5 harg5 hc0 hc1 x0 x1 xs0)]
  unfold kernelRun0_C; dsimp only; sl_unfold_words
  rw [View.canon_unit_zero (S := S1408x2048) hz]
  simp only [View.readAt_eq_ld, harg2.read_unread, harg3.read_unread, harg5.read_unread, View.ld_unit_zero (S := S2048x1408) hz, View.ld_unit_zero (S := S2048x2048) hz,
    View.ld_unit_zero (S := S1408x2048) hz, View.readCov_unit_zero (S := S1408x2048) _ hz]

end

/-! ## The blocks of the arguments -/

theorem index2 : ∀ t : Fin cfg0.N, win0_2.index t 0 = t.val / 4 ∧ win0_2.index t 1 = 0 :=
  (by decide +kernel : ∀ t : Fin grid0.N, win0_2.index t 0 = t.val / 4 ∧ win0_2.index t 1 = 0)
theorem index1 : ∀ t : Fin cfg0.N, win0_1.index t 0 = t.val % 4 ∧ win0_1.index t 1 = 0 :=
  (by decide +kernel : ∀ t : Fin grid0.N, win0_1.index t 0 = t.val % 4 ∧ win0_1.index t 1 = 0)
theorem index0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)

theorem row_lt (t : Fin cfg0.N) (k : Fin 2048) : 2048 * (t.val % 4) + k.val < 8192 := by omega
theorem col_lt (t : Fin cfg0.N) (r : Fin 1408) : 1408 * (t.val / 4) + r.val < 5632 := by
  have := lt_of_lt_of_eq t.isLt (show cfg0.N = 16 from N_0)
  omega

/-- The array row of row `k` of point `t`'s block. -/
def row (t : Fin cfg0.N) (k : Fin 2048) : Fin 8192 := ⟨2048 * (t.val % 4) + k.val, row_lt t k⟩
/-- The array column of column `r` of point `t`'s block. -/
def col (t : Fin cfg0.N) (r : Fin 1408) : Fin 5632 := ⟨1408 * (t.val / 4) + r.val, col_lt t r⟩

theorem blk0 (c : Dev nD) (t : Fin cfg0.N) (k : Fin 2048) (r : Fin 1408) :
    iblk m c 0 t (ix2 k r : S2048x1408.Idx) = m ((c : Thread nD τ).loc main_arg0) (ix2 (row t k) (col t r)) := by
  unfold iblk; rw [View.read_apply]
  show V m c main_arg0 _ = _
  unfold V
  congr 1; funext a; apply Fin.ext
  match a with
  | ⟨0, _⟩ => show win0_0.index t 0 * 2048 + 1 * k.val = 2048 * (t.val % 4) + k.val; rw [(index0 t).1]; omega
  | ⟨1, _⟩ => show win0_0.index t 1 * 1408 + 1 * r.val = 1408 * (t.val / 4) + r.val; rw [(index0 t).2]; omega

theorem blk1 (c : Dev nD) (t : Fin cfg0.N) (k : Fin 2048) (l : Fin 2048) :
    iblk m c 1 t (ix2 k l : S2048x2048.Idx) = m ((c : Thread nD τ).loc main_arg1) (ix2 (row t k) l) := by
  unfold iblk; rw [View.read_apply]
  show V m c main_arg1 _ = _
  unfold V
  congr 1; funext a; apply Fin.ext
  match a with
  | ⟨0, _⟩ => show win0_1.index t 0 * 2048 + 1 * k.val = 2048 * (t.val % 4) + k.val; rw [(index1 t).1]; omega
  | ⟨1, _⟩ => show win0_1.index t 1 * 2048 + 1 * l.val = l.val; rw [(index1 t).2]; omega

/-! ## The sum over the points of a run -/

/-- The product at token `n`. -/
def T (a0 : S8192x5632.Idx → EReal) (a1 : S8192x2048.Idx → EReal) (p : Fin 5632) (l : Fin 2048) (n : ℕ) : EReal :=
  if h : n < 8192 then a0 (ix2 ⟨n, h⟩ p) * a1 (ix2 ⟨n, h⟩ l) else 0

/-- The result: a sum over all the tokens. -/
def G (a0 : S8192x5632.Idx → EReal) (a1 : S8192x2048.Idx → EReal) : S5632x2048.Idx → EReal :=
  fun i => ∑ n : Fin 8192, a0 (ix2 n (i 0)) * a1 (ix2 n (i 1))

def Gm (c : Dev nD) : Buf (Elt Ideal) ((c : Thread nD τ).loc main_v0) :=
  G (m ((c : Thread nD τ).loc main_arg0)) (m ((c : Thread nD τ).loc main_arg1))

def Tm (c : Dev nD) : Fin 5632 → Fin 2048 → ℕ → EReal :=
  T (m ((c : Thread nD τ).loc main_arg0)) (m ((c : Thread nD τ).loc main_arg1))

theorem term (c : Dev nD) (t : Fin cfg0.N) (k : Fin 2048) (r : Fin 1408) (l : Fin 2048) :
    @HMul.hMul EReal EReal EReal _ (iblk m c 0 t (ix2 k r : S2048x1408.Idx)) (iblk m c 1 t (ix2 k l : S2048x2048.Idx)) = Tm m c (col t r) l (2048 * (t.val % 4) + k.val) := by
  rw [blk0, blk1]
  unfold Tm T
  rw [dif_pos (row_lt t k)]
  rfl

theorem step (c : Dev nD) (t : Fin cfg0.N) (acc : Vec Ideal S1408x2048 .f32) (r : Fin 1408) (l : Fin 2048) :
    k0_pay2 acc (iblk m c 0 t) (iblk m c 1 t) (ix2 r l)
      = acc (ix2 r l) + ∑ k : Fin 2048, Tm m c (col t r) l (2048 * (t.val % 4) + k.val) := by
  rw [pay2_apply]
  exact congrArg _ (Finset.sum_congr rfl fun k _ => term m c t k r l)

theorem acc_eq (c : Dev nD) (q : ℕ) (r : Fin 1408) (l : Fin 2048) (p : Fin 5632) (hp : p.val = 1408 * q + r.val) :
    ∀ (j : ℕ) (_ : j < 4 - 1) (h : 4 * q + j < cfg0.N),
      (outsAt0 m c (4 * q + j) h).2 (ix2 r l) = ∑ s ∈ Finset.range (j + 1), ∑ k : Fin 2048, Tm m c p l (2048 * s + k.val)
  | 0, _, h => by
    refine (congrArg (fun o => o.2 (ix2 r l)) (outsAt0_A m c ⟨4 * q + 0, h⟩ (by dsimp only; omega) (by dsimp only; omega))).trans ?_
    dsimp only
    rw [sout_A, step, pay1_apply, zero_add, Finset.sum_range_one]
    refine Finset.sum_congr rfl fun k _ => ?_
    rw [show col ⟨4 * q + 0, h⟩ r = p from Fin.ext (by rw [hp]; show 1408 * ((4 * q + 0) / 4) + r.val = _; omega)]
    congr 2
    dsimp only; omega
  | j + 1, hj, h => by
    refine (congrArg (fun o => o.2 (ix2 r l)) ((outsAt0_succ m c (4 * q + j) h).trans
      (stAt0_B m c ⟨4 * q + j + 1, h⟩ _ (by dsimp only; omega) (by dsimp only; omega)))).trans ?_
    dsimp only
    rw [sout_B, step, acc_eq c q r l p hp j (by omega) (Nat.lt_of_succ_lt h), Finset.sum_range_succ _ (j + 1)]
    congr 1
    refine Finset.sum_congr rfl fun k _ => ?_
    rw [show col ⟨4 * q + j + 1, h⟩ r = p from Fin.ext (by rw [hp]; show 1408 * ((4 * q + j + 1) / 4) + r.val = _; omega)]
    congr 2
    dsimp only; omega

theorem out_eq (c : Dev nD) (q : ℕ) (r : Fin 1408) (l : Fin 2048) (p : Fin 5632) (hp : p.val = 1408 * q + r.val)
    (h : 4 * q + 2 + 1 < cfg0.N) :
    (outsAt0 m c (4 * q + 2 + 1) h).1 (ix2 r l) = ∑ s ∈ Finset.range (2 + 1 + 1), ∑ k : Fin 2048, Tm m c p l (2048 * s + k.val) := by
  refine (congrArg (fun o => o.1 (ix2 r l)) ((outsAt0_succ m c (4 * q + 2) h).trans
    (stAt0_C m c ⟨4 * q + 2 + 1, h⟩ _ (by dsimp only; omega) (by dsimp only; omega)))).trans ?_
  dsimp only
  rw [out_C, pay3_eq, step, acc_eq m c q r l p hp 2 (by omega) (Nat.lt_of_succ_lt h), Finset.sum_range_succ _ (2 + 1)]
  congr 1
  refine Finset.sum_congr rfl fun k _ => ?_
  rw [show col ⟨4 * q + 2 + 1, h⟩ r = p from Fin.ext (by rw [hp]; show 1408 * ((4 * q + 2 + 1) / 4) + r.val = _; omega)]
  congr 2
  dsimp only; omega

theorem total (c : Dev nD) (p : Fin 5632) (l : Fin 2048) :
    ∑ s ∈ Finset.range 4, ∑ k : Fin 2048, Tm m c p l (2048 * s + k.val) = Gm m c (ix2 p l) := by
  rw [Cert.Blocks.sum_range_blocks (Tm m c p l) 2048 4, Finset.sum_range]
  show ∑ n : Fin 8192, Tm m c p l n.val = _
  unfold Gm G
  refine Finset.sum_congr rfl fun n _ => ?_
  unfold Tm T
  rw [dif_pos n.isLt]
  rfl

theorem flushed_eq (c : Dev nD) (t : Fin cfg0.N) (hf : (cfg0.win 2).flush t = true) :
    (dats m 0 c).flushed 2 t = ((cfg0.win 2).blk t).view.read (Elt Ideal) (Gm m c) := by
  have hm : t.val % 4 = 4 - 1 := (flush0_2 t).mp hf
  show (cfg0.win 2).cut (grid0.coords t) ((dats m 0 c).after 2 t) = _
  rw [after0_2]
  funext y
  have hy0 : (y 0).val < 1408 := (y 0).isLt
  have hy1 : (y 1).val < 2048 := (y 1).isLt
  have e1 : (cfg0.win 2).xinj (grid0.coords t) y = (ix2 (⟨(y 0).val, hy0⟩ : Fin 1408) (⟨(y 1).val, hy1⟩ : Fin 2048) : S1408x2048.Idx) := by
    funext a; apply Fin.ext
    match a with
    | ⟨0, _⟩ => rfl
    | ⟨1, _⟩ => rfl
  have e2 : ((cfg0.win 2).blk t).view.emb y = (ix2 (col t ⟨(y 0).val, hy0⟩) (⟨(y 1).val, hy1⟩ : Fin 2048) : S5632x2048.Idx) := by
    funext a; apply Fin.ext
    match a with
    | ⟨0, _⟩ => show win0_2.index t 0 * 1408 + 1 * (y 0).val = 1408 * (t.val / 4) + (y 0).val; rw [(index2 t).1]; omega
    | ⟨1, _⟩ => show win0_2.index t 1 * 2048 + 1 * (y 1).val = (y 1).val; rw [(index2 t).2]; omega
  refine (congrArg (outsAt0 m c t.val t.isLt).1 e1).trans ?_
  refine Eq.trans ?_ (congrArg (Gm m c) e2).symm
  rw [← total]
  have ht : t.val = 4 * (t.val / 4) + 2 + 1 := by omega
  have hlt : 4 * (t.val / 4) + 2 + 1 < cfg0.N := ht ▸ t.isLt
  have e3 : outsAt0 m c t.val t.isLt = outsAt0 m c (4 * (t.val / 4) + 2 + 1) hlt := by
    congr 1
  rw [e3]
  exact out_eq m c (t.val / 4) _ _ (col t ⟨(y 0).val, hy0⟩) rfl hlt

theorem final (c : Dev nD) : (dats m 0 c).arrAt 2 cfg0.N = Gm m c :=
  (dats m 0 c).arrAt_eq_of_cover 2 (Gm m c) (fun t hf => flushed_eq m c t hf) (fun i => (covered_iff2 i).2 (by
    have h0 : (i 0).val < 5632 := (i 0).isLt
    have h1 : (i 1).val < 2048 := (i 1).isLt
    omega))

/-- The value claim of the input projection's weight gradient. -/
theorem algebraic : algebraic_Kernel2Ideal_Reference2Ideal := by
  intro m g m' g' _ hag
  refine ⟨fun c => Gm m c, (θ_run _ _ _).mono (fun r h c => ⟨(h c).1.trans (final m c), (h c).2⟩) (run_blocks m g),
    (θ_run _ _ _).mono (fun r h c => ⟨(h c).1.trans ?_, (h c).2⟩) (Cert.Reference2Ideal.Value.run m' g')⟩
  rw [(hag c).1, (hag c).2]
  unfold Gm
  funext j
  idx_vars j
  pointwise [G]
  rw [Fintype.sum_unique]

end Cert.Kernel2Ideal.DwIn

end
-- ==== Proof.DhPoint.lean ====
module

public import proofs.«01_k».proof.Defs
public import proofs.«01_k».proof.Proof.Blocks
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.TwoAxisContraction

/-!
The gradient of the norm and the input projection: what one grid point leaves.
-/

@[expose] public section

set_option maxRecDepth 16384

noncomputable section

namespace Cert.Kernel3Ideal.DhNorm

open Idealize.ShloMosaic Idealize.ShloMosaic.TcCoe Idealize.ShloMosaic.Tactic Idealize.ShloMosaic.StableHlo
open Idealize.SL.Sem
open Cert.Kernel3Ideal Cert.Kernel3Ideal.Gen Cert.Kernel3Ideal.Value

variable (m : (ℓ : Loc nD τ sig) → Buf (Elt Ideal) ℓ)

theorem hz : (![0, 0] : Fin 2 → Nat) = fun _ => 0 := funext fun a => by fin_cases a <;> rfl

/-- One over the root mean square of a row. -/
def inv (x : Fin 2048 → EReal) : EReal :=
  Ideal.rsqrt (Ideal.div (∑ k : Fin 2048, x k * x k) (Ideal.ofBits .f32 0x45000000#32) + Ideal.ofBits .f32 0x358637BD#32)

/-- The gradient to the norm's input as the kernel computes it: `d` the gradient to the norm's output, `x` the row, `g` the
gain, `o` what is added. -/
def kdx (d x g : Fin 2048 → EReal) (o : EReal) (l : Fin 2048) : EReal :=
  o + inv x * (d l * g l - x l * inv x * Ideal.div (∑ k : Fin 2048, d k * g k * (x k * inv x)) (Ideal.ofBits .f32 0x45000000#32))

theorem pay3_apply (v3 : Vec Ideal S256x5632 .bf16) (v4 : Vec Ideal S5632x2048 .bf16) (r : Fin 256) (l : Fin 2048) :
    k0_pay3 v3 v4 (ix2 r l) = ∑ j : Fin 5632, v3 (ix2 r j) * v4 (ix2 j l) := by
  pointwise [k0_pay3]

theorem pay5_apply (v6 : Vec Ideal S256x2048 .f32) (r : Fin 256) (l : Fin 2048) :
    k0_pay5 v6 (ix2 r l) = v6 (ix2 r l) * inv (fun k => v6 (ix2 r k)) := by
  pointwise [k0_pay5, k0_pay4, inv]

theorem pay6_apply (v3 : Vec Ideal S256x5632 .bf16) (v4 : Vec Ideal S5632x2048 .bf16) (v6 : Vec Ideal S256x2048 .f32)
    (v17 : Vec Ideal S1x2048 .f32) (v26 : Vec Ideal S256x2048 .f32) (r : Fin 256) (l : Fin 2048) :
    k0_pay6 v3 v4 v6 v17 v26 (ix2 r l)
      = kdx (fun q => ∑ j : Fin 5632, v3 (ix2 r j) * v4 (ix2 j q)) (fun k => v6 (ix2 r k)) (fun k => v17 (ix2 0 k)) (v26 (ix2 r l)) l := by
  pointwise [k0_pay6, k0_pay5, k0_pay4, k0_pay3, kdx, inv]

theorem pay7_eq (v3 : Vec Ideal S256x5632 .bf16) (v4 : Vec Ideal S5632x2048 .bf16) (v6 : Vec Ideal S256x2048 .f32)
    (v17 : Vec Ideal S1x2048 .f32) (v26 : Vec Ideal S256x2048 .f32) : k0_pay7 v3 v4 v6 v17 v26 = k0_pay6 v3 v4 v6 v17 v26 := rfl

theorem pay1_apply (v5 v16 : Vec Ideal S256x2048 .f32) (v36 : Vec Ideal S1x2048 .f32) (l : Fin 2048) :
    k0_pay1 v5 v16 v36 (ix2 0 l) = v36 (ix2 0 l) + ∑ r : Fin 256, v5 (ix2 r l) * v16 (ix2 r l) := by
  pointwise [k0_pay1]

theorem pay2_apply (l : Fin 2048) : (k0_pay2 (F := Ideal)) (ix2 0 l) = 0 := by
  pointwise [k0_pay2]

section
variable (c : Dev nD) (i : grid0.Coords) (arg1 : Memref sig .tc .vmem S256x5632 .bf16) (harg1 : arg1.IsWhole) (arg2 : Memref sig .tc .vmem S5632x2048 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S256x2048 .f32) (harg6 : arg6.IsWhole) (arg7 : Memref sig .tc .vmem S1x2048 .f32) (harg7 : arg7.IsWhole) (arg8 : Memref sig .tc .vmem S256x2048 .bf16) (harg8 : arg8.IsWhole)
  (x0 : Vec Ideal S256x5632 .bf16) (x1 : Vec Ideal S5632x2048 .bf16) (x2 : Vec Ideal S256x2048 .f32) (x3 : Vec Ideal S256x2048 .f32)
  (x4 : Vec Ideal S1x2048 .f32) (xo6 : Vec Ideal S1x2048 .f32)

theorem out_A_5 (hc0 : cond0_0 i) : out0_A_5 c i arg1 harg1 arg2 harg2 arg3 harg3 arg4 harg4 arg5 harg5 arg6 harg6 arg7 harg7 arg8 harg8 hc0 x0 x1 x2 x3 x4 = k0_pay6 x0 x1 x2 x4 x3 := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A; dsimp only; sl_unfold_words
  first
    | rw [View.canon_unit_zero (S := S256x2048) hz]
    | rw [View.canon_cons_unit_zero (S := S256x2048) hz]
  simp only [View.readAt_eq_ld, harg1.read_unread, harg2.read_unread, harg3.read_unread, harg4.read_unread, harg5.read_unread, harg7.read_unread,
    View.ld_unit_zero (S := S256x5632) hz, View.ld_unit_zero (S := S5632x2048) hz, View.ld_unit_zero (S := S256x2048) hz,
    View.ld_unit_zero (S := S1x2048) hz, View.readCov_unit_zero (S := S1x2048) _ hz]

theorem out_A_7 (hc0 : cond0_0 i) : out0_A_7 c i arg1 harg1 arg2 harg2 arg3 harg3 arg4 harg4 arg5 harg5 arg6 harg6 arg7 harg7 arg8 harg8 hc0 x0 x1 x2 x3 x4 = k0_pay7 x0 x1 x2 x4 x3 := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4)]
  unfold kernelRun0_A; dsimp only; sl_unfold_words
  first
    | rw [View.canon_unit_zero (S := S256x2048) hz]
    | rw [View.canon_cons_unit_zero (S := S256x2048) hz]
  simp only [View.readAt_eq_ld, harg1.read_unread, harg2.read_unread, harg3.read_unread, harg4.read_unread, harg5.read_unread, harg7.read_unread,
    View.ld_unit_zero (S := S256x5632) hz, View.ld_unit_zero (S := S5632x2048) hz, View.ld_unit_zero (S := S256x2048) hz,
    View.ld_unit_zero (S := S1x2048) hz, View.readCov_unit_zero (S := S1x2048) _ hz]

theorem out_A_6 (hc0 : cond0_0 i) : out0_A_6 c i arg1 harg1 arg2 harg2 arg3 harg3 arg4 harg4 arg5 harg5 arg6 harg6 arg7 harg7 arg8 harg8 hc0 x0 x1 x2 x3 x4 = k0_pay1 (k0_pay3 x0 x1) (k0_pay5 x2) (k0_pay2 (F := Ideal)) := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A; dsimp only; sl_unfold_words
  first
    | rw [View.canon_unit_zero (S := S1x2048) hz]
    | rw [View.canon_cons_unit_zero (S := S1x2048) hz]
  simp only [View.readAt_eq_ld, harg1.read_unread, harg2.read_unread, harg3.read_unread, harg4.read_unread, harg5.read_unread, harg7.read_unread,
    View.ld_unit_zero (S := S256x5632) hz, View.ld_unit_zero (S := S5632x2048) hz, View.ld_unit_zero (S := S256x2048) hz,
    View.ld_unit_zero (S := S1x2048) hz, View.readCov_unit_zero (S := S1x2048) _ hz]

theorem out_B_5 (hc0 : ¬cond0_0 i) : out0_B_5 c i arg1 harg1 arg2 harg2 arg3 harg3 arg4 harg4 arg5 harg5 arg6 harg6 arg7 harg7 arg8 harg8 hc0 x0 x1 x2 x3 x4 xo6 = k0_pay6 x0 x1 x2 x4 x3 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xo6)]
  unfold kernelRun0_B; dsimp only; sl_unfold_words
  first
    | rw [View.canon_unit_zero (S := S256x2048) hz]
    | rw [View.canon_cons_unit_zero (S := S256x2048) hz]
  simp only [View.readAt_eq_ld, harg1.read_unread, harg2.read_unread, harg3.read_unread, harg4.read_unread, harg5.read_unread, harg7.read_unread,
    View.ld_unit_zero (S := S256x5632) hz, View.ld_unit_zero (S := S5632x2048) hz, View.ld_unit_zero (S := S256x2048) hz,
    View.ld_unit_zero (S := S1x2048) hz, View.readCov_unit_zero (S := S1x2048) _ hz]

theorem out_B_7 (hc0 : ¬cond0_0 i) : out0_B_7 c i arg1 harg1 arg2 harg2 arg3 harg3 arg4 harg4 arg5 harg5 arg6 harg6 arg7 harg7 arg8 harg8 hc0 x0 x1 x2 x3 x4 xo6 = k0_pay7 x0 x1 x2 x4 x3 := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 xo6)]
  unfold kernelRun0_B; dsimp only; sl_unfold_words
  first
    | rw [View.canon_unit_zero (S := S256x2048) hz]
    | rw [View.canon_cons_unit_zero (S := S256x2048) hz]
  simp only [View.readAt_eq_ld, harg1.read_unread, harg2.read_unread, harg3.read_unread, harg4.read_unread, harg5.read_unread, harg7.read_unread,
    View.ld_unit_zero (S := S256x5632) hz, View.ld_unit_zero (S := S5632x2048) hz, View.ld_unit_zero (S := S256x2048) hz,
    View.ld_unit_zero (S := S1x2048) hz, View.readCov_unit_zero (S := S1x2048) _ hz]

theorem out_B_6 (hc0 : ¬cond0_0 i) : out0_B_6 c i arg1 harg1 arg2 harg2 arg3 harg3 arg4 harg4 arg5 harg5 arg6 harg6 arg7 harg7 arg8 harg8 hc0 x0 x1 x2 x3 x4 xo6 = k0_pay1 (k0_pay3 x0 x1) (k0_pay5 x2) xo6 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xo6)]
  unfold kernelRun0_B; dsimp only; sl_unfold_words
  first
    | rw [View.canon_unit_zero (S := S1x2048) hz]
    | rw [View.canon_cons_unit_zero (S := S1x2048) hz]
  simp only [View.readAt_eq_ld, harg1.read_unread, harg2.read_unread, harg3.read_unread, harg4.read_unread, harg5.read_unread, harg7.read_unread,
    View.ld_unit_zero (S := S256x5632) hz, View.ld_unit_zero (S := S5632x2048) hz, View.ld_unit_zero (S := S256x2048) hz,
    View.ld_unit_zero (S := S1x2048) hz, View.readCov_unit_zero (S := S1x2048) _ hz]

end

end Cert.Kernel3Ideal.DhNorm

end
-- ==== Proof.DhCore.lean ====
module

public import proofs.«01_k».proof.Proof.DhPoint
public import Idealize.ShloMosaic.Lib.ReduceAll
public import Idealize.ShloMosaic.PureOps.Ideal.Laws

/-!
The gradient of the norm: the reference's entry, and why the two forms of the gradient agree.
-/

@[expose] public section

set_option maxRecDepth 16384

noncomputable section

namespace Cert.Kernel3Ideal.DhNorm

open Idealize.ShloMosaic Idealize.ShloMosaic.Tactic

/-! ## The constants -/

theorem eps_eq : ∃ e : ℝ, 0 < e ∧ Ideal.ofBits .f32 0x358637BD#32 = (e : EReal) := by
  refine ⟨8796093 * (1 / 8796093022208), by norm_num, ?_⟩
  rw [EReal.coe_mul]
  simp [Ideal.ofBits, Ideal.ieee]
  try norm_num

theorem two_eq : Ideal.ofBits .f32 0x45000000#32 = ((2048 : ℝ) : EReal) := by
  rw [show (2048 : ℝ) = 8388608 * (1 / 4096) by norm_num, EReal.coe_mul]
  simp [Ideal.ofBits, Ideal.ieee]
  try norm_num

theorem half_eq : Ideal.ofBits .f32 0xBF000000#32 = ((-(1 / 2) : ℝ) : EReal) := by
  rw [show (-(1 / 2) : ℝ) = -(8388608 * (1 / 16777216)) by norm_num, EReal.coe_neg, EReal.coe_mul]
  simp [Ideal.ofBits, Ideal.ieee]
  try norm_num

/-! ## The reference -/

/-- The mean square of a row with the small constant. -/
def ms (x : Fin 2048 → EReal) : EReal :=
  Ideal.div (∑ k : Fin 2048, x k * x k) (Ideal.ofBits .f32 0x45000000#32) + Ideal.ofBits .f32 0x358637BD#32

/-- The gradient to the mean square, divided over the row. -/
def rt (d x g : Fin 2048 → EReal) : EReal :=
  Ideal.div ((∑ k : Fin 2048, x k * (d k * g k)) * (Ideal.ofBits .f32 0xBF000000#32 * Ideal.div (inv x) (ms x))) (Ideal.ofBits .f32 0x45000000#32)

/-- The gradient to the norm's input as differentiation gives it. -/
def rdx (d x g : Fin 2048 → EReal) (o : EReal) (l : Fin 2048) : EReal :=
  o + d l * g l * inv x + x l * rt d x g + rt d x g * x l

section
open Cert.Reference3Ideal

theorem red_rows (X : S1x8192x1.Idx → EReal) (r : Fin 8192) :
    Ideal.hostReduceAdd Gen.reducesTo_S1x8192x1_S8192_d0_2 X 0 (ix1 r) = X (ix3 0 r 0) := by
  unfold Ideal.hostReduceAdd
  rw [zero_add]
  refine (Finset.sum_eq_single (ix3 0 r 0 : S1x8192x1.Idx) (fun b hb hne => ?_) (fun hn => ?_))
  · refine absurd ?_ hne
    have hd := congrArg Fin.val (congrFun (Finset.mem_filter.1 hb).2 0)
    have h0 : (b 0).val < 1 := (b 0).isLt
    have h2 : (b 2).val < 1 := (b 2).isLt
    funext a; apply Fin.ext
    match a with
    | ⟨0, _⟩ => show (b 0).val = 0; omega
    | ⟨1, _⟩ => exact hd
    | ⟨2, _⟩ => show (b 2).val = 0; omega
  · refine absurd (Finset.mem_filter.2 ⟨Finset.mem_univ _, ?_⟩) hn
    funext a; apply Fin.ext
    match a with
    | ⟨0, _⟩ => rfl

theorem red_gain (X : S1x1x2048.Idx → EReal) (l : Fin 2048) :
    Ideal.hostReduceAdd Gen.reducesTo_S1x1x2048_S2048_d0_1 X 0 (ix1 l) = X (ix3 0 0 l) := by
  unfold Ideal.hostReduceAdd
  rw [zero_add]
  refine (Finset.sum_eq_single (ix3 0 0 l : S1x1x2048.Idx) (fun b hb hne => ?_) (fun hn => ?_))
  · refine absurd ?_ hne
    have hd := congrArg Fin.val (congrFun (Finset.mem_filter.1 hb).2 0)
    have h0 : (b 0).val < 1 := (b 0).isLt
    have h1 : (b 1).val < 1 := (b 1).isLt
    funext a; apply Fin.ext
    match a with
    | ⟨0, _⟩ => show (b 0).val = 0; omega
    | ⟨1, _⟩ => show (b 1).val = 0; omega
    | ⟨2, _⟩ => exact hd
  · refine absurd (Finset.mem_filter.2 ⟨Finset.mem_univ _, ?_⟩) hn
    funext a; apply Fin.ext
    match a with
    | ⟨0, _⟩ => rfl

open Cert.Reference3Ideal.Read

theorem ref_dx (a0 : S8192x5632.Idx → EReal) (a1 : S5632x2048.Idx → EReal) (a2 a3 : S8192x2048.Idx → EReal) (a4 : S2048.Idx → EReal)
    (r : Fin 8192) (l : Fin 2048) :
    val_main_v46 (F := Ideal) a0 a1 a2 a3 a4 (ix2 r l)
      = rdx (fun q => ∑ j : Fin 5632, a0 (ix2 r j) * a1 (ix2 j q)) (fun k => a2 (ix2 r k)) (fun k => a4 (ix1 k)) (a3 (ix2 r l)) l := by
  pointwise [val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_v20, val_main_v21, val_main_v22, val_main_v23, val_main_v24, val_main_cst_3, val_main_v25, val_main_v26, val_main_v27, val_main_v28, val_main_cst_4, val_main_v29, val_main_v30, val_main_cst_5, val_main_v31, val_main_v32, val_main_v33, val_main_v34, val_main_v35, val_main_v36, val_main_cst_6, val_main_v37, val_main_v38, val_main_cst_7, val_main_v39, val_main_v40, val_main_v41, val_main_v42, val_main_v43, val_main_v44, val_main_v45, val_main_v46, val_main_v47, val_main_v48, val_main_v49]
  simp only [red_rows]
  pointwise [rdx, rt, ms, inv]

theorem ref_dxb (a0 : S8192x5632.Idx → EReal) (a1 : S5632x2048.Idx → EReal) (a2 a3 : S8192x2048.Idx → EReal) (a4 : S2048.Idx → EReal)
    (r : Fin 8192) (l : Fin 2048) :
    val_main_v49 (F := Ideal) a0 a1 a2 a3 a4 (ix2 r l) = val_main_v46 (F := Ideal) a0 a1 a2 a3 a4 (ix2 r l) := rfl

theorem ref_dg (a0 : S8192x5632.Idx → EReal) (a1 : S5632x2048.Idx → EReal) (a2 : S8192x2048.Idx → EReal) (l : Fin 2048) :
    val_main_v47 (F := Ideal) a0 a1 a2 (ix2 0 l)
      = ∑ n : Fin 8192, a2 (ix2 n l) * inv (fun k => a2 (ix2 n k)) * ∑ j : Fin 5632, a0 (ix2 n j) * a1 (ix2 j l) := by
  pointwise [val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_v20, val_main_v21, val_main_v22, val_main_v23, val_main_v24, val_main_cst_3, val_main_v25, val_main_v26, val_main_v27, val_main_v28, val_main_cst_4, val_main_v29, val_main_v30, val_main_cst_5, val_main_v31, val_main_v32, val_main_v33, val_main_v34, val_main_v35, val_main_v36, val_main_cst_6, val_main_v37, val_main_v38, val_main_cst_7, val_main_v39, val_main_v40, val_main_v41, val_main_v42, val_main_v43, val_main_v44, val_main_v45, val_main_v46, val_main_v47, val_main_v48, val_main_v49]
  simp only [red_gain]
  pointwise [inv]

end

/-! ## The two forms agree -/

theorem csum {n : ℕ} (f : Fin n → ℝ) : ∑ k : Fin n, ((f k : ℝ) : EReal) = ((∑ k : Fin n, f k : ℝ) : EReal) :=
  (map_sum (⟨⟨Real.toEReal, rfl⟩, EReal.coe_add⟩ : ℝ →+ EReal) f Finset.univ).symm

/-- A real number that isn't negative goes into a sum of extended reals. -/
theorem mul_sum_nonneg {n : ℕ} (q : ℝ) (hq : 0 ≤ q) (f : Fin n → EReal) : (q : EReal) * ∑ k : Fin n, f k = ∑ k : Fin n, (q : EReal) * f k :=
  map_sum (⟨⟨fun y => (q : EReal) * y, mul_zero _⟩,
    EReal.left_distrib_of_nonneg_of_ne_top (EReal.coe_nonneg.2 hq) (EReal.coe_ne_top q)⟩ : EReal →+ EReal) f Finset.univ

theorem add_self (y : EReal) : y + y = ((2 : ℝ) : EReal) * y := by
  have h : ((2 : ℝ) : EReal) = 1 + 1 := by rw [← EReal.coe_one, ← EReal.coe_add]; norm_num
  rw [h, EReal.right_distrib_of_nonneg zero_le_one zero_le_one, one_mul]

theorem sq_nonneg' (y : EReal) : 0 ≤ y * y := by
  induction y using EReal.rec with
  | bot => simp
  | coe r => rw [← EReal.coe_mul]; exact EReal.coe_nonneg.2 (mul_self_nonneg r)
  | top => simp

/-- A row with an infinite entry: its reciprocal root is 0, and both forms leave what is added. -/
theorem core_inf (d x g : Fin 2048 → EReal) (o : EReal) (l : Fin 2048) (k : Fin 2048) (hk : x k * x k = ⊤) : kdx d x g o l = rdx d x g o l := by
  obtain ⟨e, he, heq⟩ := eps_eq
  have hsum : ∑ j : Fin 2048, x j * x j = ⊤ :=
    top_le_iff.1 (hk ▸ Finset.single_le_sum (f := fun j => x j * x j) (fun j _ => sq_nonneg' (x j)) (Finset.mem_univ k))
  have hms : ms x = ⊤ := by
    unfold ms
    rw [hsum, two_eq, heq, Ideal.div_coe (show (2048 : ℝ) ≠ 0 by norm_num), EReal.top_mul_coe_of_pos (by norm_num), EReal.top_add_coe]
  have hinv : inv x = 0 := (congrArg Ideal.rsqrt hms).trans Ideal.rsqrt_top
  unfold kdx rdx rt
  rw [hms, hinv]
  simp [Ideal.div, two_eq]

/-- A row of real numbers. -/
theorem core_real (d g : Fin 2048 → EReal) (x : Fin 2048 → ℝ) (o : EReal) (l : Fin 2048) :
    kdx d (fun k => (x k : EReal)) g o l = rdx d (fun k => (x k : EReal)) g o l := by
  obtain ⟨e, he, heq⟩ := eps_eq
  obtain ⟨s, hs⟩ : ∃ s : ℝ, s = (∑ k : Fin 2048, x k * x k) * (1 / 2048) + e := ⟨_, rfl⟩
  have hpos : 0 < s := by
    have h0 : 0 ≤ ∑ k : Fin 2048, x k * x k := Finset.sum_nonneg fun k _ => mul_self_nonneg _
    rw [hs]; positivity
  have hms : ms (fun k => (x k : EReal)) = (s : EReal) := by
    unfold ms
    simp only [← EReal.coe_mul, csum, two_eq, Ideal.div_coe (show (2048 : ℝ) ≠ 0 by norm_num), heq, ← EReal.coe_add, hs]
  have hinv : inv (fun k => (x k : EReal)) = (((Real.sqrt s)⁻¹ : ℝ) : EReal) := by
    refine (congrArg Ideal.rsqrt hms).trans ?_
    rw [Ideal.rsqrt_coe, if_neg (not_lt.2 hpos.le), if_neg hpos.ne']
  unfold kdx rdx rt
  rw [hms, hinv]
  obtain ⟨q, hq⟩ : ∃ q : ℝ, q = (Real.sqrt s)⁻¹ := ⟨_, rfl⟩
  have hq0 : 0 ≤ q := by rw [hq]; positivity
  have hqq : 1 / s = q * q := by
    rw [hq, ← mul_inv, Real.mul_self_sqrt hpos.le, one_div]
  rw [← hq]
  have hw : ∑ k : Fin 2048, d k * g k * ((x k : EReal) * (q : EReal)) = (q : EReal) * ∑ k : Fin 2048, (x k : EReal) * (d k * g k) := by
    rw [mul_sum_nonneg q hq0]
    refine Finset.sum_congr rfl fun k _ => ?_
    rw [mul_comm (x k : EReal) (q : EReal), mul_comm (d k * g k), mul_assoc]
  rw [hw]
  generalize (∑ k : Fin 2048, (x k : EReal) * (d k * g k)) = S
  simp only [two_eq, half_eq, Ideal.div_coe (show (2048 : ℝ) ≠ 0 by norm_num), Ideal.div_coe hpos.ne']
  rw [sub_eq_add_neg, EReal.left_distrib_of_nonneg_of_ne_top (EReal.coe_nonneg.2 hq0) (EReal.coe_ne_top q), add_assoc, add_assoc]
  refine congrArg (o + ·) (congrArg₂ (· + ·) (mul_comm _ _) ?_)
  have hl : (x l : EReal) * (S * (((-(1 / 2) : ℝ) : EReal) * ((q : EReal) * ((1 / s : ℝ) : EReal))) * ((1 / 2048 : ℝ) : EReal))
      = S * ((x l * (-(1 / 2) * (q * (1 / s))) * (1 / 2048) : ℝ) : EReal) := by
    simp only [EReal.coe_mul]; ac_rfl
  rw [mul_comm _ (x l : EReal), add_self, hl]
  have hn : ∀ y : EReal, (q : EReal) * -((x l : EReal) * q * (q * y * ((1 / 2048 : ℝ) : EReal)))
      = y * ((-(q * x l * q * q * (1 / 2048)) : ℝ) : EReal) := fun y => by
    rw [EReal.coe_neg, mul_neg, mul_neg]
    refine congrArg Neg.neg ?_
    simp only [EReal.coe_mul]; ac_rfl
  rw [hn, mul_left_comm, ← EReal.coe_mul, hqq]
  refine congrArg (S * ·) (congrArg Real.toEReal ?_)
  ring

theorem core (d x g : Fin 2048 → EReal) (o : EReal) (l : Fin 2048) : kdx d x g o l = rdx d x g o l := by
  by_cases h : ∃ k, x k * x k = ⊤
  · obtain ⟨k, hk⟩ := h
    exact core_inf d x g o l k hk
  · have hr : ∀ k, ∃ r : ℝ, x k = (r : EReal) := fun k => by
      have hk : x k * x k ≠ ⊤ := fun e => h ⟨k, e⟩
      revert hk
      induction x k using EReal.rec with
      | bot => intro hk; simp at hk
      | coe r => intro _; exact ⟨r, rfl⟩
      | top => intro hk; simp at hk
    choose f hf using hr
    obtain rfl : x = fun k => (f k : EReal) := funext hf
    exact core_real d g f o l

end Cert.Kernel3Ideal.DhNorm

end
-- ==== Proof.DhNorm.lean ====
module

public import proofs.«01_k».proof.Proof.DhPoint
public import proofs.«01_k».proof.Proof.DhCore

/-!
The gradient through the norm and the input projection. Each of 32 points computes 256 rows of the gradient to the
layer's input; the gradient to the gain is summed over the points in one row that stays in place.
-/

@[expose] public section

set_option maxRecDepth 16384

noncomputable section

namespace Cert.Kernel3Ideal.DhNorm

open Idealize.ShloMosaic Idealize.ShloMosaic.TcCoe Idealize.ShloMosaic.Tactic Idealize.ShloMosaic.StableHlo
open Idealize.SL.Sem
open Cert.Kernel3Ideal Cert.Kernel3Ideal.Gen Cert.Kernel3Ideal.Value

variable (m : (ℓ : Loc nD τ sig) → Buf (Elt Ideal) ℓ)

/-! ## What each point reads -/

theorem V_arg0 (c : Dev nD) : V m c main_arg0 = m ((c : Thread nD τ).loc main_arg0) := by
  first | rfl | (unfold V; after_results <;> rfl)
theorem V_arg1 (c : Dev nD) : V m c main_arg1 = m ((c : Thread nD τ).loc main_arg1) := by
  first | rfl | (unfold V; after_results <;> rfl)
theorem V_arg2 (c : Dev nD) : V m c main_arg2 = m ((c : Thread nD τ).loc main_arg2) := by
  first | rfl | (unfold V; after_results <;> rfl)
theorem V_arg3 (c : Dev nD) : V m c main_arg3 = m ((c : Thread nD τ).loc main_arg3) := by
  first | rfl | (unfold V; after_results <;> rfl)
theorem V_v0 (c : Dev nD) : V m c main_v0 = broadcastInDim S1x2048 ![1] bcast_S2048_S1x2048_1 (m ((c : Thread nD τ).loc main_arg4)) := by
  after_results <;> rfl

theorem index0 : ∀ t : Fin cfg0.N, win0_0.index t 0 = t.val ∧ win0_0.index t 1 = 0 :=
  (by decide +kernel : ∀ t : Fin grid0.N, win0_0.index t 0 = t.val ∧ win0_0.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index7 : ∀ t : Fin cfg0.N, win0_7.index t 0 = t.val ∧ win0_7.index t 1 = 0 :=
  (by decide +kernel : ∀ t : Fin grid0.N, win0_7.index t 0 = t.val ∧ win0_7.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)

theorem row_lt (t : Fin cfg0.N) (r : Fin 256) : 256 * t.val + r.val < 8192 := by
  have := lt_of_lt_of_eq t.isLt (show cfg0.N = 32 from N_0)
  omega

/-- Row `r` of block `t`. -/
def row (t : Fin cfg0.N) (r : Fin 256) : Fin 8192 := ⟨256 * t.val + r.val, row_lt t r⟩

theorem blk0 (c : Dev nD) (t : Fin cfg0.N) (r : Fin 256) (k : Fin 5632) :
    iblk m c 0 t (ix2 r k : S256x5632.Idx) = m ((c : Thread nD τ).loc main_arg0) (ix2 (row t r) k) := by
  unfold iblk; rw [View.read_apply]
  show V m c main_arg0 _ = _
  rw [V_arg0]
  congr 1; funext a; apply Fin.ext
  match a with
  | ⟨0, _⟩ => show win0_0.index t 0 * 256 + 1 * r.val = 256 * t.val + r.val; rw [(index0 t).1]; omega
  | ⟨1, _⟩ => show win0_0.index t 1 * 5632 + 1 * k.val = k.val; rw [(index0 t).2]; omega

theorem blk1 (c : Dev nD) (t : Fin cfg0.N) (r : Fin 5632) (k : Fin 2048) :
    iblk m c 1 t (ix2 r k : S5632x2048.Idx) = m ((c : Thread nD τ).loc main_arg1) (ix2 (r) k) := by
  unfold iblk; rw [View.read_apply]
  show V m c main_arg1 _ = _
  rw [V_arg1]
  congr 1; funext a; apply Fin.ext
  match a with
  | ⟨0, _⟩ => show win0_1.index t 0 * 5632 + 1 * r.val = r.val; rw [(index1 t).1]; omega
  | ⟨1, _⟩ => show win0_1.index t 1 * 2048 + 1 * k.val = k.val; rw [(index1 t).2]; omega

theorem blk2 (c : Dev nD) (t : Fin cfg0.N) (r : Fin 256) (k : Fin 2048) :
    iblk m c 2 t (ix2 r k : S256x2048.Idx) = m ((c : Thread nD τ).loc main_arg2) (ix2 (row t r) k) := by
  unfold iblk; rw [View.read_apply]
  show V m c main_arg2 _ = _
  rw [V_arg2]
  congr 1; funext a; apply Fin.ext
  match a with
  | ⟨0, _⟩ => show win0_2.index t 0 * 256 + 1 * r.val = 256 * t.val + r.val; rw [(index2 t).1]; omega
  | ⟨1, _⟩ => show win0_2.index t 1 * 2048 + 1 * k.val = k.val; rw [(index2 t).2]; omega

theorem blk3 (c : Dev nD) (t : Fin cfg0.N) (r : Fin 256) (k : Fin 2048) :
    iblk m c 3 t (ix2 r k : S256x2048.Idx) = m ((c : Thread nD τ).loc main_arg3) (ix2 (row t r) k) := by
  unfold iblk; rw [View.read_apply]
  show V m c main_arg3 _ = _
  rw [V_arg3]
  congr 1; funext a; apply Fin.ext
  match a with
  | ⟨0, _⟩ => show win0_3.index t 0 * 256 + 1 * r.val = 256 * t.val + r.val; rw [(index3 t).1]; omega
  | ⟨1, _⟩ => show win0_3.index t 1 * 2048 + 1 * k.val = k.val; rw [(index3 t).2]; omega

theorem blk4 (c : Dev nD) (t : Fin cfg0.N) (k : Fin 2048) :
    iblk m c 4 t (ix2 0 k : S1x2048.Idx) = m ((c : Thread nD τ).loc main_arg4) (ix1 k) := by
  unfold iblk; rw [View.read_apply]
  show V m c main_v0 _ = _
  rw [V_v0]
  show m ((c : Thread nD τ).loc main_arg4) _ = _
  congr 1; funext a; apply Fin.ext
  match a with
  | ⟨0, _⟩ => show win0_4.index t 1 * 2048 + 1 * k.val = k.val; rw [(index4 t).2]; omega

/-! ## The gradient to the layer's input -/

def GX (a0 : S8192x5632.Idx → EReal) (a1 : S5632x2048.Idx → EReal) (a2 a3 : S8192x2048.Idx → EReal) (a4 : S2048.Idx → EReal) :
    S8192x2048.Idx → EReal :=
  fun i => kdx (fun q => ∑ j : Fin 5632, a0 (ix2 (i 0) j) * a1 (ix2 j q)) (fun k => a2 (ix2 (i 0) k)) (fun k => a4 (ix1 k)) (a3 (ix2 (i 0) (i 1))) (i 1)

def GXm (c : Dev nD) : Buf (Elt Ideal) ((c : Thread nD τ).loc main_v1_0) :=
  GX (m ((c : Thread nD τ).loc main_arg0)) (m ((c : Thread nD τ).loc main_arg1)) (m ((c : Thread nD τ).loc main_arg2))
    (m ((c : Thread nD τ).loc main_arg3)) (m ((c : Thread nD τ).loc main_arg4))
def GBm (c : Dev nD) : Buf (Elt Ideal) ((c : Thread nD τ).loc main_v1_2) :=
  GX (m ((c : Thread nD τ).loc main_arg0)) (m ((c : Thread nD τ).loc main_arg1)) (m ((c : Thread nD τ).loc main_arg2))
    (m ((c : Thread nD τ).loc main_arg3)) (m ((c : Thread nD τ).loc main_arg4))

theorem dx_blk (c : Dev nD) (t : Fin cfg0.N) (r : Fin 256) (l : Fin 2048) :
    k0_pay6 (iblk m c 0 t) (iblk m c 1 t) (iblk m c 2 t) (iblk m c 4 t) (iblk m c 3 t) (ix2 r l)
      = GX (m ((c : Thread nD τ).loc main_arg0)) (m ((c : Thread nD τ).loc main_arg1)) (m ((c : Thread nD τ).loc main_arg2))
    (m ((c : Thread nD τ).loc main_arg3)) (m ((c : Thread nD τ).loc main_arg4)) (ix2 (row t r) l) := by
  rw [pay6_apply]
  simp only [blk0, blk1, blk2, blk3, blk4]
  rfl

theorem outs5 (c : Dev nD) (t : Fin cfg0.N) : (outsAt0 m c t.val t.isLt).1
    = k0_pay6 (iblk m c 0 t) (iblk m c 1 t) (iblk m c 2 t) (iblk m c 4 t) (iblk m c 3 t) := by
  by_cases h0 : t.val % 32 = 0
  · refine (congrArg (fun o => o.1) (outsAt0_A m c t h0)).trans ?_
    dsimp only
    rw [out_A_5]
  · refine (congrArg (fun o => o.1) (outsAt0_B m c t h0)).trans ?_
    dsimp only
    rw [out_B_5]

theorem outs7 (c : Dev nD) (t : Fin cfg0.N) : (outsAt0 m c t.val t.isLt).2.2
    = k0_pay6 (iblk m c 0 t) (iblk m c 1 t) (iblk m c 2 t) (iblk m c 4 t) (iblk m c 3 t) := by
  rw [← pay7_eq]
  by_cases h0 : t.val % 32 = 0
  · refine (congrArg (fun o => o.2.2) (outsAt0_A m c t h0)).trans ?_
    dsimp only
    rw [out_A_7]
  · refine (congrArg (fun o => o.2.2) (outsAt0_B m c t h0)).trans ?_
    dsimp only
    rw [out_B_7]

theorem flushed5_eq (c : Dev nD) (t : Fin cfg0.N) :
    (dats m 0 c).flushed 5 t = ((cfg0.win 5).blk t).view.read (Elt Ideal) (GXm m c) := by
  show (cfg0.win 5).cut (grid0.coords t) ((dats m 0 c).after 5 t) = _
  rw [after0_5]; funext y
  have hy0 : (y 0).val < 256 := (y 0).isLt
  have hy1 : (y 1).val < 2048 := (y 1).isLt
  have e1 : (cfg0.win 5).xinj (grid0.coords t) y = (ix2 (⟨(y 0).val, hy0⟩ : Fin 256) (⟨(y 1).val, hy1⟩ : Fin 2048) : S256x2048.Idx) := by
    funext a; apply Fin.ext
    match a with
    | ⟨0, _⟩ => rfl
    | ⟨1, _⟩ => rfl
  have e2 : ((cfg0.win 5).blk t).view.emb y = (ix2 (row t ⟨(y 0).val, hy0⟩) (⟨(y 1).val, hy1⟩ : Fin 2048) : S8192x2048.Idx) := by
    funext a; apply Fin.ext
    match a with
    | ⟨0, _⟩ => show win0_5.index t 0 * 256 + 1 * (y 0).val = 256 * t.val + (y 0).val; rw [(index5 t).1]; omega
    | ⟨1, _⟩ => show win0_5.index t 1 * 2048 + 1 * (y 1).val = (y 1).val; rw [(index5 t).2]; omega
  refine (congrArg (outsAt0 m c t.val t.isLt).1 e1).trans ?_
  refine Eq.trans ?_ (congrArg (GXm m c) e2).symm
  rw [outs5]
  exact dx_blk m c t _ _

theorem covered5 (i : S8192x2048.Idx) : ∃ t : Fin cfg0.N, (cfg0.win 5).flush t = true ∧ i ∈ ((cfg0.win 5).blk t).view.set := by
  have h0 : (i 0).val < 8192 := (i 0).isLt
  have h1 : (i 1).val < 2048 := (i 1).isLt
  have hN : (i 0).val / 256 < cfg0.N := by rw [show cfg0.N = 32 from N_0]; omega
  refine ⟨⟨(i 0).val / 256, hN⟩, flush0_5 _, ?_⟩
  show i ∈ ((View.whole main_v1_0).slice (win0_5.rect ⟨(i 0).val / 256, hN⟩)).set
  rw [View.set_slice_whole, Rect.mem_set_unit]
  have e := index5 ⟨(i 0).val / 256, hN⟩
  intro a
  match a with
  | ⟨0, _⟩ => show win0_5.index ⟨(i 0).val / 256, hN⟩ 0 * 256 ≤ (i 0).val ∧ (i 0).val < win0_5.index ⟨(i 0).val / 256, hN⟩ 0 * 256 + 256; rw [e.1]; dsimp only; omega
  | ⟨1, _⟩ => show win0_5.index ⟨(i 0).val / 256, hN⟩ 1 * 2048 ≤ (i 1).val ∧ (i 1).val < win0_5.index ⟨(i 0).val / 256, hN⟩ 1 * 2048 + 2048; rw [e.2]; omega

theorem final5 (c : Dev nD) : (dats m 0 c).arrAt 5 cfg0.N = GXm m c :=
  (dats m 0 c).arrAt_eq_of_cover 5 (GXm m c) (fun t _ => flushed5_eq m c t) (fun i => covered5 i)

theorem flushed7_eq (c : Dev nD) (t : Fin cfg0.N) :
    (dats m 0 c).flushed 7 t = ((cfg0.win 7).blk t).view.read (Elt Ideal) (GBm m c) := by
  show (cfg0.win 7).cut (grid0.coords t) ((dats m 0 c).after 7 t) = _
  rw [after0_7]; funext y
  have hy0 : (y 0).val < 256 := (y 0).isLt
  have hy1 : (y 1).val < 2048 := (y 1).isLt
  have e1 : (cfg0.win 7).xinj (grid0.coords t) y = (ix2 (⟨(y 0).val, hy0⟩ : Fin 256) (⟨(y 1).val, hy1⟩ : Fin 2048) : S256x2048.Idx) := by
    funext a; apply Fin.ext
    match a with
    | ⟨0, _⟩ => rfl
    | ⟨1, _⟩ => rfl
  have e2 : ((cfg0.win 7).blk t).view.emb y = (ix2 (row t ⟨(y 0).val, hy0⟩) (⟨(y 1).val, hy1⟩ : Fin 2048) : S8192x2048.Idx) := by
    funext a; apply Fin.ext
    match a with
    | ⟨0, _⟩ => show win0_7.index t 0 * 256 + 1 * (y 0).val = 256 * t.val + (y 0).val; rw [(index7 t).1]; omega
    | ⟨1, _⟩ => show win0_7.index t 1 * 2048 + 1 * (y 1).val = (y 1).val; rw [(index7 t).2]; omega
  refine (congrArg (outsAt0 m c t.val t.isLt).2.2 e1).trans ?_
  refine Eq.trans ?_ (congrArg (GBm m c) e2).symm
  rw [outs7]
  exact dx_blk m c t _ _

theorem covered7 (i : S8192x2048.Idx) : ∃ t : Fin cfg0.N, (cfg0.win 7).flush t = true ∧ i ∈ ((cfg0.win 7).blk t).view.set := by
  have h0 : (i 0).val < 8192 := (i 0).isLt
  have h1 : (i 1).val < 2048 := (i 1).isLt
  have hN : (i 0).val / 256 < cfg0.N := by rw [show cfg0.N = 32 from N_0]; omega
  refine ⟨⟨(i 0).val / 256, hN⟩, flush0_7 _, ?_⟩
  show i ∈ ((View.whole main_v1_2).slice (win0_7.rect ⟨(i 0).val / 256, hN⟩)).set
  rw [View.set_slice_whole, Rect.mem_set_unit]
  have e := index7 ⟨(i 0).val / 256, hN⟩
  intro a
  match a with
  | ⟨0, _⟩ => show win0_7.index ⟨(i 0).val / 256, hN⟩ 0 * 256 ≤ (i 0).val ∧ (i 0).val < win0_7.index ⟨(i 0).val / 256, hN⟩ 0 * 256 + 256; rw [e.1]; dsimp only; omega
  | ⟨1, _⟩ => show win0_7.index ⟨(i 0).val / 256, hN⟩ 1 * 2048 ≤ (i 1).val ∧ (i 1).val < win0_7.index ⟨(i 0).val / 256, hN⟩ 1 * 2048 + 2048; rw [e.2]; omega

theorem final7 (c : Dev nD) : (dats m 0 c).arrAt 7 cfg0.N = GBm m c :=
  (dats m 0 c).arrAt_eq_of_cover 7 (GBm m c) (fun t _ => flushed7_eq m c t) (fun i => covered7 i)

/-! ## The gradient to the gain -/

/-- What token `n` adds. -/
def T (a0 : S8192x5632.Idx → EReal) (a1 : S5632x2048.Idx → EReal) (a2 : S8192x2048.Idx → EReal) (l : Fin 2048) (n : ℕ) : EReal :=
  if h : n < 8192 then (∑ j : Fin 5632, a0 (ix2 ⟨n, h⟩ j) * a1 (ix2 j l)) * (a2 (ix2 ⟨n, h⟩ l) * inv (fun k => a2 (ix2 ⟨n, h⟩ k))) else 0

def GD (a0 : S8192x5632.Idx → EReal) (a1 : S5632x2048.Idx → EReal) (a2 : S8192x2048.Idx → EReal) : S1x2048.Idx → EReal :=
  fun i => ∑ n : Fin 8192, (∑ j : Fin 5632, a0 (ix2 n j) * a1 (ix2 j (i 1))) * (a2 (ix2 n (i 1)) * inv (fun k => a2 (ix2 n k)))

def GDm (c : Dev nD) : Buf (Elt Ideal) ((c : Thread nD τ).loc main_v1_1) :=
  GD (m ((c : Thread nD τ).loc main_arg0)) (m ((c : Thread nD τ).loc main_arg1)) (m ((c : Thread nD τ).loc main_arg2))
def Tm (c : Dev nD) : Fin 2048 → ℕ → EReal :=
  T (m ((c : Thread nD τ).loc main_arg0)) (m ((c : Thread nD τ).loc main_arg1)) (m ((c : Thread nD τ).loc main_arg2))

theorem step (c : Dev nD) (t : Fin cfg0.N) (acc : Vec Ideal S1x2048 .f32) (l : Fin 2048) :
    k0_pay1 (k0_pay3 (iblk m c 0 t) (iblk m c 1 t)) (k0_pay5 (iblk m c 2 t)) acc (ix2 0 l)
      = acc (ix2 0 l) + ∑ k : Fin 256, Tm m c l (256 * t.val + k.val) := by
  rw [pay1_apply]
  refine congrArg _ (Finset.sum_congr rfl fun k _ => ?_)
  rw [pay3_apply, pay5_apply]
  simp only [blk0, blk1, blk2]
  unfold Tm T
  rw [dif_pos (row_lt t k)]
  rfl

theorem acc_eq (c : Dev nD) (l : Fin 2048) : ∀ (j : ℕ) (h : j < cfg0.N),
      (outsAt0 m c j h).2.1 (ix2 0 l) = ∑ s ∈ Finset.range (j + 1), ∑ k : Fin 256, Tm m c l (256 * s + k.val)
  | 0, h => by
    refine (congrArg (fun o => o.2.1 (ix2 0 l)) (outsAt0_A m c ⟨0, h⟩ (Nat.zero_mod _))).trans ?_
    dsimp only
    rw [out_A_6, step, pay2_apply, zero_add, Finset.sum_range_one]
  | j + 1, h => by
    have ih := acc_eq c l j (Nat.lt_of_succ_lt h)
    have h32 : j + 1 < 32 := lt_of_lt_of_eq h (show cfg0.N = 32 from N_0)
    refine (congrArg (fun o => o.2.1 (ix2 0 l)) (outsAt0_B m c ⟨j + 1, h⟩ (by dsimp only; omega))).trans ?_
    dsimp only
    rw [out_B_6, step, Finset.sum_range_succ _ (j + 1)]
    exact congrArg₂ (fun a b : EReal => a + b) ih rfl

theorem total (c : Dev nD) (l : Fin 2048) :
    ∑ s ∈ Finset.range 32, ∑ k : Fin 256, Tm m c l (256 * s + k.val) = GDm m c (ix2 0 l) := by
  rw [Cert.Blocks.sum_range_blocks (Tm m c l) 256 32, Finset.sum_range]
  show ∑ n : Fin 8192, Tm m c l n.val = _
  unfold GDm GD
  refine Finset.sum_congr rfl fun n _ => ?_
  unfold Tm T
  rw [dif_pos n.isLt]
  rfl

theorem flushed6_eq (c : Dev nD) (t : Fin cfg0.N) (hf : (cfg0.win 6).flush t = true) :
    (dats m 0 c).flushed 6 t = ((cfg0.win 6).blk t).view.read (Elt Ideal) (GDm m c) := by
  have hm : t.val % 32 = 31 := (flush0_6 t).mp hf
  have h32 : t.val < 32 := lt_of_lt_of_eq t.isLt (show cfg0.N = 32 from N_0)
  show (cfg0.win 6).cut (grid0.coords t) ((dats m 0 c).after 6 t) = _
  rw [after0_6]; funext y
  have hy0 : (y 0).val < 1 := (y 0).isLt
  have hy1 : (y 1).val < 2048 := (y 1).isLt
  have e1 : (cfg0.win 6).xinj (grid0.coords t) y = (ix2 (0 : Fin 1) (⟨(y 1).val, hy1⟩ : Fin 2048) : S1x2048.Idx) := by
    funext a; apply Fin.ext
    match a with
    | ⟨0, _⟩ => show (y 0).val = 0; omega
    | ⟨1, _⟩ => rfl
  have e2 : ((cfg0.win 6).blk t).view.emb y = (ix2 (0 : Fin 1) (⟨(y 1).val, hy1⟩ : Fin 2048) : S1x2048.Idx) := by
    funext a; apply Fin.ext
    match a with
    | ⟨0, _⟩ => show win0_6.index t 0 * 1 + 1 * (y 0).val = 0; rw [(index6 t).1]; omega
    | ⟨1, _⟩ => show win0_6.index t 1 * 2048 + 1 * (y 1).val = (y 1).val; rw [(index6 t).2]; omega
  refine (congrArg (outsAt0 m c t.val t.isLt).2.1 e1).trans ?_
  refine Eq.trans ?_ (congrArg (GDm m c) e2).symm
  rw [← total, acc_eq m c _ t.val t.isLt, show t.val + 1 = 32 by omega]

theorem covered6 (i : S1x2048.Idx) : ∃ t : Fin cfg0.N, (cfg0.win 6).flush t = true ∧ i ∈ ((cfg0.win 6).blk t).view.set := by
  have h0 : (i 0).val < 1 := (i 0).isLt
  have h1 : (i 1).val < 2048 := (i 1).isLt
  have hN : 31 < cfg0.N := by rw [show cfg0.N = 32 from N_0]; omega
  refine ⟨⟨31, hN⟩, (flush0_6 _).2 rfl, ?_⟩
  show i ∈ ((View.whole main_v1_1).slice (win0_6.rect ⟨31, hN⟩)).set
  rw [View.set_slice_whole, Rect.mem_set_unit]
  have e := index6 ⟨31, hN⟩
  intro a
  match a with
  | ⟨0, _⟩ => show win0_6.index ⟨31, hN⟩ 0 * 1 ≤ (i 0).val ∧ (i 0).val < win0_6.index ⟨31, hN⟩ 0 * 1 + 1; rw [e.1]; omega
  | ⟨1, _⟩ => show win0_6.index ⟨31, hN⟩ 1 * 2048 ≤ (i 1).val ∧ (i 1).val < win0_6.index ⟨31, hN⟩ 1 * 2048 + 2048; rw [e.2]; omega

theorem final6 (c : Dev nD) : (dats m 0 c).arrAt 6 cfg0.N = GDm m c :=
  (dats m 0 c).arrAt_eq_of_cover 6 (GDm m c) (fun t hf => flushed6_eq m c t hf) (fun i => covered6 i)

/-! ## The claim -/

theorem agree (a0 : S8192x5632.Idx → EReal) (a1 : S5632x2048.Idx → EReal) (a2 a3 : S8192x2048.Idx → EReal) (a4 : S2048.Idx → EReal) :
    Cert.Reference3Ideal.Read.val_main_v46 (F := Ideal) a0 a1 a2 a3 a4 = GX a0 a1 a2 a3 a4 := by
  funext j
  obtain ⟨r, l, rfl⟩ : ∃ (r : Fin 8192) (l : Fin 2048), j = ix2 r l := ⟨j 0, j 1, eq_ix2 j⟩
  exact (ref_dx a0 a1 a2 a3 a4 r l).trans (core _ _ _ _ _).symm

theorem agree_gain (a0 : S8192x5632.Idx → EReal) (a1 : S5632x2048.Idx → EReal) (a2 : S8192x2048.Idx → EReal) :
    Cert.Reference3Ideal.Read.val_main_v47 (F := Ideal) a0 a1 a2 = GD a0 a1 a2 := by
  funext j
  obtain ⟨r, l, rfl⟩ : ∃ (r : Fin 1) (l : Fin 2048), j = ix2 r l := ⟨j 0, j 1, eq_ix2 j⟩
  obtain rfl : r = 0 := Subsingleton.elim _ _
  refine (ref_dg a0 a1 a2 l).trans ?_
  exact Finset.sum_congr rfl fun n _ => mul_comm _ _

/-- The value claim of the gradient through the norm and the input projection. -/
theorem algebraic : algebraic_Kernel3Ideal_Reference3Ideal := by
  intro m g m' g' _ hag
  refine ⟨fun c => GXm m c, fun c => GDm m c, fun c => GBm m c,
    (θ_run _ _ _).mono (fun r h c => ⟨(h c).1.trans (final5 m c), (h c).2.1.trans (final6 m c), (h c).2.2.1.trans (final7 m c), (h c).2.2.2⟩) (run_blocks m g),
    (θ_run _ _ _).mono (fun r h c => ⟨(h c).1.trans ?_, (h c).2.1.trans ?_, (h c).2.2.1.trans ?_, (h c).2.2.2⟩) (Cert.Reference3Ideal.Value.run m' g')⟩
  · rw [Cert.Reference3Ideal.Read.val_main_v46_eq, (hag c).1, (hag c).2.1, (hag c).2.2.1, (hag c).2.2.2.1, (hag c).2.2.2.2]
    exact agree _ _ _ _ _
  · rw [Cert.Reference3Ideal.Read.val_main_v47_eq, (hag c).1, (hag c).2.1, (hag c).2.2.1]
    exact agree_gain _ _ _
  · rw [Cert.Reference3Ideal.Read.val_main_v49_eq, (hag c).1, (hag c).2.1, (hag c).2.2.1, (hag c).2.2.2.1, (hag c).2.2.2.2]
    exact Eq.trans (show _ = Cert.Reference3Ideal.Read.val_main_v46 (F := Ideal) _ _ _ _ _ from rfl) (agree _ _ _ _ _)

end Cert.Kernel3Ideal.DhNorm

end
-- ==== Proof.DwOut.lean ====
module

public import proofs.«01_k».proof.Defs
public import proofs.«01_k».proof.Proof.Blocks
public import proofs.«01_k».proof.Proof.Gen.Kernel4Ideal.Value
public import proofs.«01_k».proof.Proof.Gen.Reference4Ideal.Run
public import Idealize.ShloMosaic.Lib.Pointwise
public import Idealize.ShloMosaic.Lib.TwoAxisContraction

/-!
The weight gradient of the output projection, `mix.T @ dx`: the sum over eight blocks of 1024 tokens, kept in an
accumulator and written at the last. The sum over the blocks is the sum over all the tokens, which is the gradient of
`project_out`.
-/

@[expose] public section

set_option maxRecDepth 16384

noncomputable section

namespace Cert.Kernel4Ideal.DwOut

open Idealize.ShloMosaic Idealize.ShloMosaic.TcCoe Idealize.ShloMosaic.Tactic
open Idealize.SL.Sem
open Cert.Kernel4Ideal Cert.Kernel4Ideal.Gen Cert.Kernel4Ideal.Value

variable (m : (ℓ : Loc nD τ sig) → Buf (Elt Ideal) ℓ)

theorem hz : (![0, 0] : Fin 2 → Nat) = fun _ => 0 := funext fun a => by fin_cases a <;> rfl

/-! ## What one grid point leaves -/

/-- The step: the accumulator plus the product of the point's two blocks. -/
theorem pay2_apply (acc : Vec Ideal S2048x2048 .f32) (x0 : Vec Ideal S1024x2048 .bf16) (x1 : Vec Ideal S1024x2048 .bf16) (r : Fin 2048) (l : Fin 2048) :
    k0_pay2 acc x0 x1 (ix2 r l) = acc (ix2 r l) + ∑ k : Fin 1024, x0 (ix2 k r) * x1 (ix2 k l) := by
  pointwise [k0_pay2]

theorem pay1_apply (r : Fin 2048) (l : Fin 2048) : (k0_pay1 (F := Ideal)) (ix2 r l) = 0 := by
  pointwise [k0_pay1]

theorem pay3_eq (acc : Vec Ideal S2048x2048 .f32) : k0_pay3 acc = acc := rfl

section
variable (c : Dev nD) (i : grid0.Coords) (arg1 : Memref sig .tc .vmem S1024x2048 .bf16) (harg1 : arg1.IsWhole)
  (arg2 : Memref sig .tc .vmem S1024x2048 .bf16) (harg2 : arg2.IsWhole) (arg3 : Memref sig .tc .vmem S2048x2048 .bf16) (harg3 : arg3.IsWhole)
  (arg4 : Memref sig .tc .vmem S2048x2048 .f32) (harg4 : arg4.IsWhole)
  (x0 : Vec Ideal S1024x2048 .bf16) (x1 : Vec Ideal S1024x2048 .bf16) (xs0 : Vec Ideal S2048x2048 .f32)

theorem sout_A (hc0 : cond0_0 i) (hc1 : ¬cond0_1 i) :
    sout0_A_0 c i arg1 harg1 arg2 harg2 arg3 harg3 arg4 harg4 hc0 hc1 x0 x1 = k0_pay2 (k0_pay1 (F := Ideal)) x0 x1 := by
  unfold sout0_A_0
  rw [View.read_writes_eq_canon _ _ _ (scover0_A_0 c i arg1 harg1 arg2 harg2 arg3 harg3 arg4 harg4 hc0 hc1 x0 x1)]
  unfold kernelRun0_A; dsimp only; sl_unfold_words
  rw [View.canon_cons_unit_zero (S := S2048x2048) hz]
  simp only [View.readAt_eq_ld, harg1.read_unread, harg2.read_unread, View.ld_unit_zero (S := S1024x2048) hz, View.ld_unit_zero (S := S1024x2048) hz,
    View.readCov_unit_zero (S := S2048x2048) _ hz]

theorem sout_B (hc0 : ¬cond0_0 i) (hc1 : ¬cond0_1 i) :
    sout0_B_0 c i arg1 harg1 arg2 harg2 arg3 harg3 arg4 harg4 hc0 hc1 x0 x1 xs0 = k0_pay2 xs0 x0 x1 := by
  unfold sout0_B_0
  rw [View.read_writes_eq_canon _ _ _ (scover0_B_0 c i arg1 harg1 arg2 harg2 arg3 harg3 arg4 harg4 hc0 hc1 x0 x1 xs0)]
  unfold kernelRun0_B; dsimp only; sl_unfold_words
  rw [View.canon_unit_zero (S := S2048x2048) hz]
  simp only [View.readAt_eq_ld, harg1.read_unread, harg2.read_unread, harg4.read_unread, View.ld_unit_zero (S := S1024x2048) hz, View.ld_unit_zero (S := S1024x2048) hz,
    View.ld_unit_zero (S := S2048x2048) hz]

theorem out_C (hc0 : ¬cond0_0 i) (hc1 : cond0_1 i) :
    out0_C_2 c i arg1 harg1 arg2 harg2 arg3 harg3 arg4 harg4 hc0 hc1 x0 x1 xs0 = k0_pay3 (k0_pay2 xs0 x0 x1) := by
  unfold out0_C_2
  rw [View.read_writes_eq_canon _ _ _ (cover0_C_2 c i arg1 harg1 arg2 harg2 arg3 harg3 arg4 harg4 hc0 hc1 x0 x1 xs0)]
  unfold kernelRun0_C; dsimp only; sl_unfold_words
  rw [View.canon_unit_zero (S := S2048x2048) hz]
  simp only [View.readAt_eq_ld, harg1.read_unread, harg2.read_unread, harg4.read_unread, View.ld_unit_zero (S := S1024x2048) hz, View.ld_unit_zero (S := S1024x2048) hz,
    View.ld_unit_zero (S := S2048x2048) hz, View.readCov_unit_zero (S := S2048x2048) _ hz]

end

/-! ## The blocks of the arguments -/

theorem index2 : ∀ t : Fin cfg0.N, win0_2.index t 0 = t.val / 8 ∧ win0_2.index t 1 = 0 :=
  (by decide +kernel : ∀ t : Fin grid0.N, win0_2.index t 0 = t.val / 8 ∧ win0_2.index t 1 = 0)
theorem index1 : ∀ t : Fin cfg0.N, win0_1.index t 0 = t.val % 8 ∧ win0_1.index t 1 = 0 :=
  (by decide +kernel : ∀ t : Fin grid0.N, win0_1.index t 0 = t.val % 8 ∧ win0_1.index t 1 = 0)
theorem index0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)

theorem row_lt (t : Fin cfg0.N) (k : Fin 1024) : 1024 * (t.val % 8) + k.val < 8192 := by omega
theorem col_lt (t : Fin cfg0.N) (r : Fin 2048) : 2048 * (t.val / 8) + r.val < 2048 := by
  have := lt_of_lt_of_eq t.isLt (show cfg0.N = 8 from N_0)
  omega

/-- The array row of row `k` of point `t`'s block. -/
def row (t : Fin cfg0.N) (k : Fin 1024) : Fin 8192 := ⟨1024 * (t.val % 8) + k.val, row_lt t k⟩
/-- The array column of column `r` of point `t`'s block. -/
def col (t : Fin cfg0.N) (r : Fin 2048) : Fin 2048 := ⟨2048 * (t.val / 8) + r.val, col_lt t r⟩

theorem blk0 (c : Dev nD) (t : Fin cfg0.N) (k : Fin 1024) (r : Fin 2048) :
    iblk m c 0 t (ix2 k r : S1024x2048.Idx) = m ((c : Thread nD τ).loc main_arg0) (ix2 (row t k) (col t r)) := by
  unfold iblk; rw [View.read_apply]
  show V m c main_arg0 _ = _
  unfold V
  congr 1; funext a; apply Fin.ext
  match a with
  | ⟨0, _⟩ => show win0_0.index t 0 * 1024 + 1 * k.val = 1024 * (t.val % 8) + k.val; rw [(index0 t).1]; omega
  | ⟨1, _⟩ => show win0_0.index t 1 * 2048 + 1 * r.val = 2048 * (t.val / 8) + r.val; rw [(index0 t).2]; omega

theorem blk1 (c : Dev nD) (t : Fin cfg0.N) (k : Fin 1024) (l : Fin 2048) :
    iblk m c 1 t (ix2 k l : S1024x2048.Idx) = m ((c : Thread nD τ).loc main_arg1) (ix2 (row t k) l) := by
  unfold iblk; rw [View.read_apply]
  show V m c main_arg1 _ = _
  unfold V
  congr 1; funext a; apply Fin.ext
  match a with
  | ⟨0, _⟩ => show win0_1.index t 0 * 1024 + 1 * k.val = 1024 * (t.val % 8) + k.val; rw [(index1 t).1]; omega
  | ⟨1, _⟩ => show win0_1.index t 1 * 2048 + 1 * l.val = l.val; rw [(index1 t).2]; omega

/-! ## The sum over the points of a run -/

/-- The product at token `n`. -/
def T (a0 : S8192x2048.Idx → EReal) (a1 : S8192x2048.Idx → EReal) (p : Fin 2048) (l : Fin 2048) (n : ℕ) : EReal :=
  if h : n < 8192 then a0 (ix2 ⟨n, h⟩ p) * a1 (ix2 ⟨n, h⟩ l) else 0

/-- The result: a sum over all the tokens. -/
def G (a0 : S8192x2048.Idx → EReal) (a1 : S8192x2048.Idx → EReal) : S2048x2048.Idx → EReal :=
  fun i => ∑ n : Fin 8192, a0 (ix2 n (i 0)) * a1 (ix2 n (i 1))

def Gm (c : Dev nD) : Buf (Elt Ideal) ((c : Thread nD τ).loc main_v0) :=
  G (m ((c : Thread nD τ).loc main_arg0)) (m ((c : Thread nD τ).loc main_arg1))

def Tm (c : Dev nD) : Fin 2048 → Fin 2048 → ℕ → EReal :=
  T (m ((c : Thread nD τ).loc main_arg0)) (m ((c : Thread nD τ).loc main_arg1))

theorem term (c : Dev nD) (t : Fin cfg0.N) (k : Fin 1024) (r : Fin 2048) (l : Fin 2048) :
    @HMul.hMul EReal EReal EReal _ (iblk m c 0 t (ix2 k r : S1024x2048.Idx)) (iblk m c 1 t (ix2 k l : S1024x2048.Idx)) = Tm m c (col t r) l (1024 * (t.val % 8) + k.val) := by
  rw [blk0, blk1]
  unfold Tm T
  rw [dif_pos (row_lt t k)]
  rfl

theorem step (c : Dev nD) (t : Fin cfg0.N) (acc : Vec Ideal S2048x2048 .f32) (r : Fin 2048) (l : Fin 2048) :
    k0_pay2 acc (iblk m c 0 t) (iblk m c 1 t) (ix2 r l)
      = acc (ix2 r l) + ∑ k : Fin 1024, Tm m c (col t r) l (1024 * (t.val % 8) + k.val) := by
  rw [pay2_apply]
  exact congrArg _ (Finset.sum_congr rfl fun k _ => term m c t k r l)

theorem acc_eq (c : Dev nD) (q : ℕ) (r : Fin 2048) (l : Fin 2048) (p : Fin 2048) (hp : p.val = 2048 * q + r.val) :
    ∀ (j : ℕ) (_ : j < 8 - 1) (h : 8 * q + j < cfg0.N),
      (outsAt0 m c (8 * q + j) h).2 (ix2 r l) = ∑ s ∈ Finset.range (j + 1), ∑ k : Fin 1024, Tm m c p l (1024 * s + k.val)
  | 0, _, h => by
    refine (congrArg (fun o => o.2 (ix2 r l)) (outsAt0_A m c ⟨8 * q + 0, h⟩ (by dsimp only; omega) (by dsimp only; omega))).trans ?_
    dsimp only
    rw [sout_A, step, pay1_apply, zero_add, Finset.sum_range_one]
    refine Finset.sum_congr rfl fun k _ => ?_
    rw [show col ⟨8 * q + 0, h⟩ r = p from Fin.ext (by rw [hp]; show 2048 * ((8 * q + 0) / 8) + r.val = _; omega)]
    congr 2
    dsimp only; omega
  | j + 1, hj, h => by
    refine (congrArg (fun o => o.2 (ix2 r l)) ((outsAt0_succ m c (8 * q + j) h).trans
      (stAt0_B m c ⟨8 * q + j + 1, h⟩ _ (by dsimp only; omega) (by dsimp only; omega)))).trans ?_
    dsimp only
    rw [sout_B, step, acc_eq c q r l p hp j (by omega) (Nat.lt_of_succ_lt h), Finset.sum_range_succ _ (j + 1)]
    congr 1
    refine Finset.sum_congr rfl fun k _ => ?_
    rw [show col ⟨8 * q + j + 1, h⟩ r = p from Fin.ext (by rw [hp]; show 2048 * ((8 * q + j + 1) / 8) + r.val = _; omega)]
    congr 2
    dsimp only; omega

theorem out_eq (c : Dev nD) (q : ℕ) (r : Fin 2048) (l : Fin 2048) (p : Fin 2048) (hp : p.val = 2048 * q + r.val)
    (h : 8 * q + 6 + 1 < cfg0.N) :
    (outsAt0 m c (8 * q + 6 + 1) h).1 (ix2 r l) = ∑ s ∈ Finset.range (6 + 1 + 1), ∑ k : Fin 1024, Tm m c p l (1024 * s + k.val) := by
  refine (congrArg (fun o => o.1 (ix2 r l)) ((outsAt0_succ m c (8 * q + 6) h).trans
    (stAt0_C m c ⟨8 * q + 6 + 1, h⟩ _ (by dsimp only; omega) (by dsimp only; omega)))).trans ?_
  dsimp only
  rw [out_C, pay3_eq, step, acc_eq m c q r l p hp 6 (by omega) (Nat.lt_of_succ_lt h), Finset.sum_range_succ _ (6 + 1)]
  congr 1
  refine Finset.sum_congr rfl fun k _ => ?_
  rw [show col ⟨8 * q + 6 + 1, h⟩ r = p from Fin.ext (by rw [hp]; show 2048 * ((8 * q + 6 + 1) / 8) + r.val = _; omega)]
  congr 2
  dsimp only; omega

theorem total (c : Dev nD) (p : Fin 2048) (l : Fin 2048) :
    ∑ s ∈ Finset.range 8, ∑ k : Fin 1024, Tm m c p l (1024 * s + k.val) = Gm m c (ix2 p l) := by
  rw [Cert.Blocks.sum_range_blocks (Tm m c p l) 1024 8, Finset.sum_range]
  show ∑ n : Fin 8192, Tm m c p l n.val = _
  unfold Gm G
  refine Finset.sum_congr rfl fun n _ => ?_
  unfold Tm T
  rw [dif_pos n.isLt]
  rfl

theorem flushed_eq (c : Dev nD) (t : Fin cfg0.N) (hf : (cfg0.win 2).flush t = true) :
    (dats m 0 c).flushed 2 t = ((cfg0.win 2).blk t).view.read (Elt Ideal) (Gm m c) := by
  have hm : t.val % 8 = 8 - 1 := (flush0_2 t).mp hf
  show (cfg0.win 2).cut (grid0.coords t) ((dats m 0 c).after 2 t) = _
  rw [after0_2]
  funext y
  have hy0 : (y 0).val < 2048 := (y 0).isLt
  have hy1 : (y 1).val < 2048 := (y 1).isLt
  have e1 : (cfg0.win 2).xinj (grid0.coords t) y = (ix2 (⟨(y 0).val, hy0⟩ : Fin 2048) (⟨(y 1).val, hy1⟩ : Fin 2048) : S2048x2048.Idx) := by
    funext a; apply Fin.ext
    match a with
    | ⟨0, _⟩ => rfl
    | ⟨1, _⟩ => rfl
  have e2 : ((cfg0.win 2).blk t).view.emb y = (ix2 (col t ⟨(y 0).val, hy0⟩) (⟨(y 1).val, hy1⟩ : Fin 2048) : S2048x2048.Idx) := by
    funext a; apply Fin.ext
    match a with
    | ⟨0, _⟩ => show win0_2.index t 0 * 2048 + 1 * (y 0).val = 2048 * (t.val / 8) + (y 0).val; rw [(index2 t).1]; omega
    | ⟨1, _⟩ => show win0_2.index t 1 * 2048 + 1 * (y 1).val = (y 1).val; rw [(index2 t).2]; omega
  refine (congrArg (outsAt0 m c t.val t.isLt).1 e1).trans ?_
  refine Eq.trans ?_ (congrArg (Gm m c) e2).symm
  rw [← total]
  have ht : t.val = 8 * (t.val / 8) + 6 + 1 := by omega
  have hlt : 8 * (t.val / 8) + 6 + 1 < cfg0.N := ht ▸ t.isLt
  have e3 : outsAt0 m c t.val t.isLt = outsAt0 m c (8 * (t.val / 8) + 6 + 1) hlt := by
    congr 1
  rw [e3]
  exact out_eq m c (t.val / 8) _ _ (col t ⟨(y 0).val, hy0⟩) rfl hlt

theorem final (c : Dev nD) : (dats m 0 c).arrAt 2 cfg0.N = Gm m c :=
  (dats m 0 c).arrAt_eq_of_cover 2 (Gm m c) (fun t hf => flushed_eq m c t hf) (fun i => (covered_iff2 i).2 (by
    have h0 : (i 0).val < 2048 := (i 0).isLt
    have h1 : (i 1).val < 2048 := (i 1).isLt
    omega))

/-- The value claim of the output projection's weight gradient. -/
theorem algebraic : algebraic_Kernel4Ideal_Reference4Ideal := by
  intro m g m' g' _ hag
  refine ⟨fun c => Gm m c, (θ_run _ _ _).mono (fun r h c => ⟨(h c).1.trans (final m c), (h c).2⟩) (run_blocks m g),
    (θ_run _ _ _).mono (fun r h c => ⟨(h c).1.trans ?_, (h c).2⟩) (Cert.Reference4Ideal.Value.run m' g')⟩
  rw [(hag c).1, (hag c).2]
  unfold Gm
  funext j
  idx_vars j
  pointwise [G]
  rw [Fintype.sum_unique]
  exact Finset.sum_congr rfl fun _ _ => mul_comm _ _

end Cert.Kernel4Ideal.DwOut

end
-- ==== Proof.Dmix.lean ====
module

public import proofs.«01_k».proof.Defs
public import proofs.«01_k».proof.Proof.Gen.Kernel5Ideal.Value
public import proofs.«01_k».proof.Proof.Gen.Reference5Ideal.Run
public import Idealize.ShloMosaic.Lib.Pointwise

/-!
The output projection's gradient to its input, `dx @ w_o.T`: each grid point computes a block of 1024 rows with the
whole weight, and the blocks tile the result, which is therefore the gradient of `project_out`.
-/

@[expose] public section

set_option maxRecDepth 16384

noncomputable section

namespace Cert.Kernel5Ideal.Dmix

open Idealize.ShloMosaic Idealize.ShloMosaic.TcCoe Idealize.ShloMosaic.Tactic
open Idealize.SL.Sem
open Cert.Kernel5Ideal Cert.Kernel5Ideal.Gen Cert.Kernel5Ideal.Value

variable (m : (ℓ : Loc nD τ sig) → Buf (Elt Ideal) ℓ)

theorem hz : (![0, 0] : Fin 2 → Nat) = fun _ => 0 := funext fun a => by fin_cases a <;> rfl

/-- One block of the result at an index. -/
theorem out_apply (x0 : Vec Ideal S1024x2048 .bf16) (x1 : Vec Ideal S2048x2048 .bf16)
    (r : Fin 1024) (l : Fin 2048) :
    out0_2 x0 x1 (ix2 r l) = ∑ k : Fin 2048, x0 (ix2 r k) * x1 (ix2 l k) := by
  unfold out0_2
  rw [View.canon_unit_zero hz]
  simp only [View.ld_unit_zero (S := S1024x2048) hz, View.ld_unit_zero (S := S2048x2048) hz]
  pointwise [k0_pay1]

theorem index2 : ∀ t : Fin cfg0.N, win0_2.index t 0 = t.val ∧ win0_2.index t 1 = 0 :=
  (by decide +kernel : ∀ t : Fin grid0.N, win0_2.index t 0 = t.val ∧ win0_2.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index0 : ∀ t : Fin cfg0.N, win0_0.index t 0 = t.val ∧ win0_0.index t 1 = 0 :=
  (by decide +kernel : ∀ t : Fin grid0.N, win0_0.index t 0 = t.val ∧ win0_0.index t 1 = 0)
theorem flush2 : ∀ t : Fin cfg0.N, (cfg0.win 2).flush t = true :=
  (by decide +kernel : ∀ t : Fin grid0.N, win0_2.flush t = true)

theorem row_lt (t : Fin cfg0.N) (r : Fin 1024) : t.val * 1024 + r.val < 8192 := by
  have := lt_of_lt_of_eq t.isLt (show cfg0.N = 8 from N_0)
  omega

/-- Row `r` of block `t`. -/
def row (t : Fin cfg0.N) (r : Fin 1024) : Fin 8192 := ⟨t.val * 1024 + r.val, row_lt t r⟩

theorem blk0 (c : Dev nD) (t : Fin cfg0.N) (r : Fin 1024) (k : Fin 2048) :
    iblk m c 0 t (ix2 r k : S1024x2048.Idx) = m ((c : Thread nD τ).loc main_arg0) (ix2 (row t r) k) := by
  unfold iblk; rw [View.read_apply]
  show V m c main_arg0 _ = _
  unfold V
  congr 1; funext a; apply Fin.ext
  match a with
  | ⟨0, _⟩ => show win0_0.index t 0 * 1024 + 1 * r.val = t.val * 1024 + r.val; rw [(index0 t).1]; omega
  | ⟨1, _⟩ => show win0_0.index t 1 * 2048 + 1 * k.val = k.val; rw [(index0 t).2]; omega

theorem blk1 (c : Dev nD) (t : Fin cfg0.N) (r : Fin 2048) (k : Fin 2048) :
    iblk m c 1 t (ix2 r k : S2048x2048.Idx) = m ((c : Thread nD τ).loc main_arg1) (ix2 r k) := by
  unfold iblk; rw [View.read_apply]
  show V m c main_arg1 _ = _
  unfold V
  congr 1; funext a; apply Fin.ext
  match a with
  | ⟨0, _⟩ => show win0_1.index t 0 * 2048 + 1 * r.val = r.val; rw [(index1 t).1]; omega
  | ⟨1, _⟩ => show win0_1.index t 1 * 2048 + 1 * k.val = k.val; rw [(index1 t).2]; omega

/-- The whole result: `dx @ w_o.T`. -/
def G (a0 : S8192x2048.Idx → EReal) (a1 : S2048x2048.Idx → EReal) : S8192x2048.Idx → EReal :=
  fun i => ∑ k : Fin 2048, a0 (ix2 (i 0) k) * a1 (ix2 (i 1) k)

def Gm (c : Dev nD) : Buf (Elt Ideal) ((c : Thread nD τ).loc main_v0) :=
  G (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (Gm m c) := by
  rw [flushed2]; funext y
  have hy0 : (y 0).val < 1024 := (y 0).isLt
  have hy1 : (y 1).val < 2048 := (y 1).isLt
  have e1 : (cfg0.win 2).xinj (grid0.coords t) y = (ix2 (⟨(y 0).val, hy0⟩ : Fin 1024) (⟨(y 1).val, hy1⟩ : Fin 2048) : S1024x2048.Idx) := by
    funext a; apply Fin.ext
    match a with
    | ⟨0, _⟩ => rfl
    | ⟨1, _⟩ => rfl
  have e2 : ((cfg0.win 2).blk t).view.emb y = (ix2 (row t ⟨(y 0).val, hy0⟩) (⟨(y 1).val, hy1⟩ : Fin 2048) : S8192x2048.Idx) := by
    funext a; apply Fin.ext
    match a with
    | ⟨0, _⟩ => show win0_2.index t 0 * 1024 + 1 * (y 0).val = t.val * 1024 + (y 0).val; rw [(index2 t).1]; omega
    | ⟨1, _⟩ => show win0_2.index t 1 * 2048 + 1 * (y 1).val = (y 1).val; rw [(index2 t).2]; omega
  refine (congrArg (out0_2 (iblk m c 0 t) (iblk m c 1 t)) e1).trans ?_
  refine Eq.trans ?_ (congrArg (Gm m c) e2).symm
  rw [out_apply]
  simp only [blk0, blk1]
  rfl

theorem covered (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  have hN : (i 0).val / 1024 < cfg0.N := by rw [show cfg0.N = 8 from N_0]; omega
  refine ⟨⟨(i 0).val / 1024, hN⟩, flush2 _, ?_⟩
  show i ∈ ((View.whole main_v0).slice (win0_2.rect ⟨(i 0).val / 1024, hN⟩)).set
  rw [View.set_slice_whole, Rect.mem_set_unit]
  have e := index2 ⟨(i 0).val / 1024, hN⟩
  intro a
  match a with
  | ⟨0, _⟩ => show win0_2.index ⟨(i 0).val / 1024, hN⟩ 0 * 1024 ≤ (i 0).val ∧ (i 0).val < win0_2.index ⟨(i 0).val / 1024, hN⟩ 0 * 1024 + 1024; rw [e.1]; dsimp only; omega
  | ⟨1, _⟩ => show win0_2.index ⟨(i 0).val / 1024, hN⟩ 1 * 2048 ≤ (i 1).val ∧ (i 1).val < win0_2.index ⟨(i 0).val / 1024, hN⟩ 1 * 2048 + 2048; rw [e.2]; omega

theorem final (c : Dev nD) : (dats m 0 c).arrAt 2 cfg0.N = Gm m c :=
  (dats m 0 c).arrAt_eq_of_cover 2 (Gm m c) (fun t _ => flushed_eq m c t) (fun i => covered i)

/-- The value claim of the gradient to the mixer's output. -/
theorem algebraic : algebraic_Kernel5Ideal_Reference5Ideal := by
  intro m g m' g' _ hag
  refine ⟨fun c => Gm m c, (θ_run _ _ _).mono (fun r h c => ⟨(h c).1.trans (final m c), (h c).2⟩) (run_blocks m g),
    (θ_run _ _ _).mono (fun r h c => ⟨(h c).1.trans ?_, (h c).2⟩) (Cert.Reference5Ideal.Value.run m' g')⟩
  rw [(hag c).1, (hag c).2]
  unfold Gm
  funext j
  idx_vars j
  pointwise [G] <;> rfl

end Cert.Kernel5Ideal.Dmix

end
-- ==== Proof.NormProj.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise

/-!
The norm and the input projection: each grid point normalises a block of 256 rows and multiplies it by the weight, 512
columns of the result at a time. The blocks tile both results, which are the reference's.
-/

@[expose] public section

set_option maxRecDepth 16384

noncomputable section

namespace Cert.Kernel6Ideal.NormProj

open Idealize.ShloMosaic Idealize.ShloMosaic.TcCoe Idealize.ShloMosaic.Tactic Idealize.ShloMosaic.StableHlo
open Idealize.SL.Sem
open Cert.Kernel6Ideal Cert.Kernel6Ideal.Gen Cert.Kernel6Ideal.Value

variable (m : (ℓ : Loc nD τ sig) → Buf (Elt Ideal) ℓ)

theorem hz : (![0, 0] : Fin 2 → Nat) = fun _ => 0 := funext fun a => by fin_cases a <;> rfl

/-- A normalised row times the gain. -/
def nrm (x g : Fin 2048 → EReal) (l : Fin 2048) : EReal :=
  x l * Ideal.rsqrt (Ideal.div (∑ k : Fin 2048, x k * x k) (Ideal.ofBits .f32 0x45000000#32) + Ideal.ofBits .f32 0x358637BD#32) * g l

theorem pay2_apply (x0 : Vec Ideal S256x2048 .f32) (x1 : Vec Ideal S1x2048 .f32) (r : Fin 256) (l : Fin 2048) :
    k0_pay2 x0 x1 (ix2 r l) = nrm (fun k => x0 (ix2 r k)) (fun k => x1 (ix2 0 k)) l := by
  pointwise [k0_pay2, nrm]

theorem pay1_apply (h : Vec Ideal S256x2048 .bf16) (w : Vec Ideal S512x2048 .bf16) (r : Fin 256) (q : Fin 512) :
    k0_pay1 (F := Ideal) h w (ix2 r q) = ∑ k : Fin 2048, h (ix2 r k) * w (ix2 q k) := by
  pointwise [k0_pay1]

theorem out3_eq (x0 : Vec Ideal S256x2048 .f32) (x1 : Vec Ideal S1x2048 .f32) (x2 : Vec Ideal S5632x2048 .bf16) :
    out0_3 x0 x1 x2 = k0_pay2 x0 x1 := by
  unfold out0_3
  rw [View.canon_unit_zero hz]
  simp only [View.ld_unit_zero (S := S256x2048) hz, View.ld_unit_zero (S := S1x2048) hz]

/-- A block of the product. -/
def G4 (h : Vec Ideal S256x2048 .bf16) (x2 : Vec Ideal S5632x2048 .bf16) : Vec Ideal S256x5632 .f32 :=
  fun y => ∑ k : Fin 2048, h (ix2 (y 0) k) * x2 (ix2 (y 1) k)

theorem piece (h : Vec Ideal S256x2048 .bf16) (x2 : Vec Ideal S5632x2048 .bf16) (off : ℕ)
    (i1 : ∀ a, (![off, 0] : Fin 2 → ℕ) a + S512x2048.size a ≤ S5632x2048.size a)
    (i2 : ∀ a, (![0, off] : Fin 2 → ℕ) a + S256x512.size a ≤ S256x5632.size a) (x : S256x512.Idx) :
    k0_pay1 (F := Ideal) h (View.ld x2 (Rect.unit (s := S5632x2048) ![off, 0] S512x2048.size i1)) x
      = G4 h x2 ((Rect.unit (s := S256x5632) ![0, off] S256x512.size i2).emb x) := by
  obtain ⟨a, b, rfl⟩ : ∃ (a : Fin 256) (b : Fin 512), x = ix2 a b := ⟨x 0, x 1, eq_ix2 x⟩
  rw [pay1_apply]; unfold G4
  refine Finset.sum_congr rfl fun k _ => ?_
  congr 1
  · congr 1; funext q; apply Fin.ext
    match q with
    | ⟨0, _⟩ => show a.val = 0 + 1 * a.val; omega
    | ⟨1, _⟩ => rfl
  · show x2 _ = x2 _
    congr 1; funext q; apply Fin.ext
    match q with
    | ⟨0, _⟩ => rfl
    | ⟨1, _⟩ => show 0 + 1 * k.val = k.val; omega

theorem out4_eq (x0 : Vec Ideal S256x2048 .f32) (x1 : Vec Ideal S1x2048 .f32) (x2 : Vec Ideal S5632x2048 .bf16) (y : S256x5632.Idx) :
    out0_4 x0 x1 x2 y = G4 (k0_pay2 x0 x1) x2 y := by
  have e : k0_pay2 (View.ld x0 r0_0) (View.ld x1 r0_1) = k0_pay2 x0 x1 := by
    simp only [View.ld_unit_zero (S := S256x2048) hz, View.ld_unit_zero (S := S1x2048) hz]
  rw [← e]
  unfold out0_4
  refine View.canon_apply_of_pieces (Val := Elt Ideal) (G4 (k0_pay2 (View.ld x0 r0_0) (View.ld x1 r0_1)) x2) _ ?_ y (cover0_4 _ _ _ _ _ _ _ _ _ _ _ y)
  intro p hp
  simp only [List.mem_cons, List.not_mem_nil, or_false] at hp
  rcases hp with rfl | rfl | rfl | rfl | rfl | rfl | rfl | rfl | rfl | rfl | rfl
  · exact fun x => piece _ x2 5120 (by decide) (by decide) x
  · exact fun x => piece _ x2 4608 (by decide) (by decide) x
  · exact fun x => piece _ x2 4096 (by decide) (by decide) x
  · exact fun x => piece _ x2 3584 (by decide) (by decide) x
  · exact fun x => piece _ x2 3072 (by decide) (by decide) x
  · exact fun x => piece _ x2 2560 (by decide) (by decide) x
  · exact fun x => piece _ x2 2048 (by decide) (by decide) x
  · exact fun x => piece _ x2 1536 (by decide) (by decide) x
  · exact fun x => piece _ x2 1024 (by decide) (by decide) x
  · exact fun x => piece _ x2 512 (by decide) (by decide) x
  · exact fun x => piece _ x2 0 (by decide) (by decide) x

theorem V_arg0 (c : Dev nD) : V m c main_arg0 = m ((c : Thread nD τ).loc main_arg0) := by first | rfl | (unfold V; after_results <;> rfl) | (simp [V, hostOps0])
theorem V_arg2 (c : Dev nD) : V m c main_arg2 = m ((c : Thread nD τ).loc main_arg2) := by first | rfl | (unfold V; after_results <;> rfl) | (simp [V, hostOps0])
theorem V_v0 (c : Dev nD) : V m c main_v0 = broadcastInDim S1x2048 ![1] bcast_S2048_S1x2048_1 (m ((c : Thread nD τ).loc main_arg1)) := by
  after_results <;> rfl

theorem index4 : ∀ t : Fin cfg0.N, win0_4.index t 0 = t.val ∧ win0_4.index t 1 = 0 :=
  (by decide +kernel : ∀ t : Fin grid0.N, win0_4.index t 0 = t.val ∧ win0_4.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index0 : ∀ t : Fin cfg0.N, win0_0.index t 0 = t.val ∧ win0_0.index t 1 = 0 :=
  (by decide +kernel : ∀ t : Fin grid0.N, win0_0.index t 0 = t.val ∧ win0_0.index t 1 = 0)
theorem flush3 : ∀ t : Fin cfg0.N, (cfg0.win 3).flush t = true :=
  (by decide +kernel : ∀ t : Fin grid0.N, win0_3.flush t = true)
theorem flush4 : ∀ t : Fin cfg0.N, (cfg0.win 4).flush t = true :=
  (by decide +kernel : ∀ t : Fin grid0.N, win0_4.flush t = true)

theorem row_lt (t : Fin cfg0.N) (r : Fin 256) : t.val * 256 + r.val < 8192 := by
  have := lt_of_lt_of_eq t.isLt (show cfg0.N = 32 from N_0)
  omega

/-- Row `r` of block `t`. -/
def row (t : Fin cfg0.N) (r : Fin 256) : Fin 8192 := ⟨t.val * 256 + r.val, row_lt t r⟩

theorem blk0 (c : Dev nD) (t : Fin cfg0.N) (r : Fin 256) (k : Fin 2048) :
    iblk m c 0 t (ix2 r k : S256x2048.Idx) = m ((c : Thread nD τ).loc main_arg0) (ix2 (row t r) k) := by
  unfold iblk; rw [View.read_apply]
  show V m c main_arg0 _ = _
  rw [V_arg0]
  congr 1; funext a; apply Fin.ext
  match a with
  | ⟨0, _⟩ => show win0_0.index t 0 * 256 + 1 * r.val = t.val * 256 + r.val; rw [(index0 t).1]; omega
  | ⟨1, _⟩ => show win0_0.index t 1 * 2048 + 1 * k.val = k.val; rw [(index0 t).2]; omega

theorem blk1 (c : Dev nD) (t : Fin cfg0.N) (k : Fin 2048) :
    iblk m c 1 t (ix2 0 k : S1x2048.Idx) = m ((c : Thread nD τ).loc main_arg1) (ix1 k) := by
  unfold iblk; rw [View.read_apply]
  show V m c main_v0 _ = _
  rw [V_v0]
  show m ((c : Thread nD τ).loc main_arg1) _ = _
  congr 1; funext a; apply Fin.ext
  match a with
  | ⟨0, _⟩ => show win0_1.index t 1 * 2048 + 1 * k.val = k.val; rw [(index1 t).2]; omega

theorem blk2 (c : Dev nD) (t : Fin cfg0.N) (r : Fin 5632) (k : Fin 2048) :
    iblk m c 2 t (ix2 r k : S5632x2048.Idx) = m ((c : Thread nD τ).loc main_arg2) (ix2 r k) := by
  unfold iblk; rw [View.read_apply]
  show V m c main_arg2 _ = _
  rw [V_arg2]
  congr 1; funext a; apply Fin.ext
  match a with
  | ⟨0, _⟩ => show win0_2.index t 0 * 5632 + 1 * r.val = r.val; rw [(index2 t).1]; omega
  | ⟨1, _⟩ => show win0_2.index t 1 * 2048 + 1 * k.val = k.val; rw [(index2 t).2]; omega

/-- The normalised activations. -/
def GH (a0 : S8192x2048.Idx → EReal) (a1 : S2048.Idx → EReal) : S8192x2048.Idx → EReal :=
  fun i => nrm (fun k => a0 (ix2 (i 0) k)) (fun k => a1 (ix1 k)) (i 1)

/-- Their projection. -/
def GP (a0 : S8192x2048.Idx → EReal) (a1 : S2048.Idx → EReal) (a2 : S5632x2048.Idx → EReal) : S8192x5632.Idx → EReal :=
  fun i => ∑ k : Fin 2048, GH a0 a1 (ix2 (i 0) k) * a2 (ix2 (i 1) k)

def GHm (c : Dev nD) : Buf (Elt Ideal) ((c : Thread nD τ).loc main_v1_0) :=
  GH (m ((c : Thread nD τ).loc main_arg0)) (m ((c : Thread nD τ).loc main_arg1))
def GPm (c : Dev nD) : Buf (Elt Ideal) ((c : Thread nD τ).loc main_v1_1) :=
  GP (m ((c : Thread nD τ).loc main_arg0)) (m ((c : Thread nD τ).loc main_arg1)) (m ((c : Thread nD τ).loc main_arg2))

theorem h_blk (c : Dev nD) (t : Fin cfg0.N) (r : Fin 256) (l : Fin 2048) :
    k0_pay2 (iblk m c 0 t) (iblk m c 1 t) (ix2 r l)
      = GH (m ((c : Thread nD τ).loc main_arg0)) (m ((c : Thread nD τ).loc main_arg1)) (ix2 (row t r) l) := by
  rw [pay2_apply]
  simp only [blk0, blk1]
  rfl

theorem flushed3_eq (c : Dev nD) (t : Fin cfg0.N) :
    (dats m 0 c).flushed 3 t = ((cfg0.win 3).blk t).view.read (Elt Ideal) (GHm m c) := by
  rw [flushed3]; funext y
  have hy0 : (y 0).val < 256 := (y 0).isLt
  have hy1 : (y 1).val < 2048 := (y 1).isLt
  have e1 : (cfg0.win 3).xinj (grid0.coords t) y = (ix2 (⟨(y 0).val, hy0⟩ : Fin 256) (⟨(y 1).val, hy1⟩ : Fin 2048) : S256x2048.Idx) := by
    funext a; apply Fin.ext
    match a with
    | ⟨0, _⟩ => rfl
    | ⟨1, _⟩ => rfl
  have e2 : ((cfg0.win 3).blk t).view.emb y = (ix2 (row t ⟨(y 0).val, hy0⟩) (⟨(y 1).val, hy1⟩ : Fin 2048) : S8192x2048.Idx) := by
    funext a; apply Fin.ext
    match a with
    | ⟨0, _⟩ => show win0_3.index t 0 * 256 + 1 * (y 0).val = t.val * 256 + (y 0).val; rw [(index3 t).1]; omega
    | ⟨1, _⟩ => show win0_3.index t 1 * 2048 + 1 * (y 1).val = (y 1).val; rw [(index3 t).2]; omega
  refine (congrArg (out0_3 (iblk m c 0 t) (iblk m c 1 t) (iblk m c 2 t)) e1).trans ?_
  refine Eq.trans ?_ (congrArg (GHm m c) e2).symm
  rw [out3_eq]
  exact h_blk m c t _ _

theorem flushed4_eq (c : Dev nD) (t : Fin cfg0.N) :
    (dats m 0 c).flushed 4 t = ((cfg0.win 4).blk t).view.read (Elt Ideal) (GPm m c) := by
  rw [flushed4]; funext y
  have hy0 : (y 0).val < 256 := (y 0).isLt
  have hy1 : (y 1).val < 5632 := (y 1).isLt
  have e1 : (cfg0.win 4).xinj (grid0.coords t) y = (ix2 (⟨(y 0).val, hy0⟩ : Fin 256) (⟨(y 1).val, hy1⟩ : Fin 5632) : S256x5632.Idx) := by
    funext a; apply Fin.ext
    match a with
    | ⟨0, _⟩ => rfl
    | ⟨1, _⟩ => rfl
  have e2 : ((cfg0.win 4).blk t).view.emb y = (ix2 (row t ⟨(y 0).val, hy0⟩) (⟨(y 1).val, hy1⟩ : Fin 5632) : S8192x5632.Idx) := by
    funext a; apply Fin.ext
    match a with
    | ⟨0, _⟩ => show win0_4.index t 0 * 256 + 1 * (y 0).val = t.val * 256 + (y 0).val; rw [(index4 t).1]; omega
    | ⟨1, _⟩ => show win0_4.index t 1 * 5632 + 1 * (y 1).val = (y 1).val; rw [(index4 t).2]; omega
  refine (congrArg (out0_4 (iblk m c 0 t) (iblk m c 1 t) (iblk m c 2 t)) e1).trans ?_
  refine Eq.trans ?_ (congrArg (GPm m c) e2).symm
  rw [out4_eq]
  unfold G4 GPm GP
  refine Finset.sum_congr rfl fun k _ => ?_
  exact congrArg₂ (· * ·) (h_blk m c t _ k) (blk2 m c t _ k)

theorem covered3 (i : S8192x2048.Idx) : ∃ t : Fin cfg0.N, (cfg0.win 3).flush t = true ∧ i ∈ ((cfg0.win 3).blk t).view.set := by
  have h0 : (i 0).val < 8192 := (i 0).isLt
  have h1 : (i 1).val < 2048 := (i 1).isLt
  have hN : (i 0).val / 256 < cfg0.N := by rw [show cfg0.N = 32 from N_0]; omega
  refine ⟨⟨(i 0).val / 256, hN⟩, flush3 _, ?_⟩
  show i ∈ ((View.whole main_v1_0).slice (win0_3.rect ⟨(i 0).val / 256, hN⟩)).set
  rw [View.set_slice_whole, Rect.mem_set_unit]
  have e := index3 ⟨(i 0).val / 256, hN⟩
  intro a
  match a with
  | ⟨0, _⟩ => show win0_3.index ⟨(i 0).val / 256, hN⟩ 0 * 256 ≤ (i 0).val ∧ (i 0).val < win0_3.index ⟨(i 0).val / 256, hN⟩ 0 * 256 + 256; rw [e.1]; dsimp only; omega
  | ⟨1, _⟩ => show win0_3.index ⟨(i 0).val / 256, hN⟩ 1 * 2048 ≤ (i 1).val ∧ (i 1).val < win0_3.index ⟨(i 0).val / 256, hN⟩ 1 * 2048 + 2048; rw [e.2]; omega

theorem covered4 (i : S8192x5632.Idx) : ∃ t : Fin cfg0.N, (cfg0.win 4).flush t = true ∧ i ∈ ((cfg0.win 4).blk t).view.set := by
  have h0 : (i 0).val < 8192 := (i 0).isLt
  have h1 : (i 1).val < 5632 := (i 1).isLt
  have hN : (i 0).val / 256 < cfg0.N := by rw [show cfg0.N = 32 from N_0]; omega
  refine ⟨⟨(i 0).val / 256, hN⟩, flush4 _, ?_⟩
  show i ∈ ((View.whole main_v1_1).slice (win0_4.rect ⟨(i 0).val / 256, hN⟩)).set
  rw [View.set_slice_whole, Rect.mem_set_unit]
  have e := index4 ⟨(i 0).val / 256, hN⟩
  intro a
  match a with
  | ⟨0, _⟩ => show win0_4.index ⟨(i 0).val / 256, hN⟩ 0 * 256 ≤ (i 0).val ∧ (i 0).val < win0_4.index ⟨(i 0).val / 256, hN⟩ 0 * 256 + 256; rw [e.1]; dsimp only; omega
  | ⟨1, _⟩ => show win0_4.index ⟨(i 0).val / 256, hN⟩ 1 * 5632 ≤ (i 1).val ∧ (i 1).val < win0_4.index ⟨(i 0).val / 256, hN⟩ 1 * 5632 + 5632; rw [e.2]; omega

theorem final3 (c : Dev nD) : (dats m 0 c).arrAt 3 cfg0.N = GHm m c :=
  (dats m 0 c).arrAt_eq_of_cover 3 (GHm m c) (fun t _ => flushed3_eq m c t) (fun i => covered3 i)
theorem final4 (c : Dev nD) : (dats m 0 c).arrAt 4 cfg0.N = GPm m c :=
  (dats m 0 c).arrAt_eq_of_cover 4 (GPm m c) (fun t _ => flushed4_eq m c t) (fun i => covered4 i)

open Cert.Reference6Ideal.Read in
theorem ref_h (a0 : S8192x2048.Idx → EReal) (a1 : S2048.Idx → EReal) : val_main_v15 (F := Ideal) a0 a1 = GH a0 a1 := by
  funext j
  idx_vars j
  pointwise [GH, nrm, val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15]

open Cert.Reference6Ideal.Read in
theorem ref_p (a0 : S8192x2048.Idx → EReal) (a1 : S2048.Idx → EReal) (a2 : S5632x2048.Idx → EReal) :
    val_main_v19 (F := Ideal) a0 a1 a2 = GP a0 a1 a2 := by
  funext j
  idx_vars j
  pointwise [GP, GH, nrm, val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v16, val_main_v17, val_main_v18, val_main_v19]

/-- The value claim of the norm and the input projection. -/
theorem algebraic : algebraic_Kernel6Ideal_Reference6Ideal := by
  intro m g m' g' _ hag
  refine ⟨fun c => GHm m c, fun c => GPm m c,
    (θ_run _ _ _).mono (fun r h c => ⟨(h c).1.trans (final3 m c), (h c).2.1.trans (final4 m c), (h c).2.2⟩) (run_blocks m g),
    (θ_run _ _ _).mono (fun r h c => ⟨(h c).1.trans ?_, (h c).2.1.trans ?_, (h c).2.2⟩) (Cert.Reference6Ideal.Value.run m' g')⟩
  · rw [Cert.Reference6Ideal.Read.val_main_v15_eq, (hag c).1, (hag c).2.1]
    exact ref_h _ _
  · rw [Cert.Reference6Ideal.Read.val_main_v19_eq, (hag c).1, (hag c).2.1, (hag c).2.2]
    exact ref_p _ _ _

end Cert.Kernel6Ideal.NormProj

end
-- ==== Proof.OutProj.lean ====
module

public import proofs.«01_k».proof.Defs
public import proofs.«01_k».proof.Proof.Gen.Kernel7Ideal.Value
public import proofs.«01_k».proof.Proof.Gen.Reference7Ideal.Run
public import Idealize.ShloMosaic.Lib.Pointwise

/-!
The output projection `x + mix @ w_o`: each grid point computes a block of 1024 rows with the whole weight, and the
blocks tile the result, which is therefore the reference's `x + project_out(mix, w_o)`.
-/

@[expose] public section

set_option maxRecDepth 16384

noncomputable section

namespace Cert.Kernel7Ideal.OutProj

open Idealize.ShloMosaic Idealize.ShloMosaic.TcCoe Idealize.ShloMosaic.Tactic
open Idealize.SL.Sem
open Cert.Kernel7Ideal Cert.Kernel7Ideal.Gen Cert.Kernel7Ideal.Value

variable (m : (ℓ : Loc nD τ sig) → Buf (Elt Ideal) ℓ)

theorem hz : (![0, 0] : Fin 2 → Nat) = fun _ => 0 := funext fun a => by fin_cases a <;> rfl

/-- One block of the result at an index. -/
theorem out_apply (x0 : Vec Ideal S1024x2048 .bf16) (x1 : Vec Ideal S2048x2048 .bf16) (x2 : Vec Ideal S1024x2048 .f32)
    (r : Fin 1024) (l : Fin 2048) :
    out0_3 x0 x1 x2 (ix2 r l) = x2 (ix2 r l) + ∑ k : Fin 2048, x0 (ix2 r k) * x1 (ix2 k l) := by
  unfold out0_3
  rw [View.canon_unit_zero hz]
  simp only [View.ld_unit_zero (S := S1024x2048) hz, View.ld_unit_zero (S := S2048x2048) hz]
  pointwise [k0_pay1]

theorem index3 : ∀ t : Fin cfg0.N, win0_3.index t 0 = t.val ∧ win0_3.index t 1 = 0 :=
  (by decide +kernel : ∀ t : Fin grid0.N, win0_3.index t 0 = t.val ∧ win0_3.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index0 : ∀ t : Fin cfg0.N, win0_0.index t 0 = t.val ∧ win0_0.index t 1 = 0 :=
  (by decide +kernel : ∀ t : Fin grid0.N, win0_0.index t 0 = t.val ∧ win0_0.index t 1 = 0)
theorem flush3 : ∀ t : Fin cfg0.N, (cfg0.win 3).flush t = true :=
  (by decide +kernel : ∀ t : Fin grid0.N, win0_3.flush t = true)

theorem row_lt (t : Fin cfg0.N) (r : Fin 1024) : t.val * 1024 + r.val < 8192 := by
  have := lt_of_lt_of_eq t.isLt (show cfg0.N = 8 from N_0)
  omega

/-- Row `r` of block `t`. -/
def row (t : Fin cfg0.N) (r : Fin 1024) : Fin 8192 := ⟨t.val * 1024 + r.val, row_lt t r⟩

theorem blk0 (c : Dev nD) (t : Fin cfg0.N) (r : Fin 1024) (k : Fin 2048) :
    iblk m c 0 t (ix2 r k : S1024x2048.Idx) = m ((c : Thread nD τ).loc main_arg0) (ix2 (row t r) k) := by
  unfold iblk; rw [View.read_apply]
  show V m c main_arg0 _ = _
  unfold V
  congr 1; funext a; apply Fin.ext
  match a with
  | ⟨0, _⟩ => show win0_0.index t 0 * 1024 + 1 * r.val = t.val * 1024 + r.val; rw [(index0 t).1]; omega
  | ⟨1, _⟩ => show win0_0.index t 1 * 2048 + 1 * k.val = k.val; rw [(index0 t).2]; omega

theorem blk1 (c : Dev nD) (t : Fin cfg0.N) (r : Fin 2048) (k : Fin 2048) :
    iblk m c 1 t (ix2 r k : S2048x2048.Idx) = m ((c : Thread nD τ).loc main_arg1) (ix2 r k) := by
  unfold iblk; rw [View.read_apply]
  show V m c main_arg1 _ = _
  unfold V
  congr 1; funext a; apply Fin.ext
  match a with
  | ⟨0, _⟩ => show win0_1.index t 0 * 2048 + 1 * r.val = r.val; rw [(index1 t).1]; omega
  | ⟨1, _⟩ => show win0_1.index t 1 * 2048 + 1 * k.val = k.val; rw [(index1 t).2]; omega

theorem blk2 (c : Dev nD) (t : Fin cfg0.N) (r : Fin 1024) (k : Fin 2048) :
    iblk m c 2 t (ix2 r k : S1024x2048.Idx) = m ((c : Thread nD τ).loc main_arg2) (ix2 (row t r) k) := by
  unfold iblk; rw [View.read_apply]
  show V m c main_arg2 _ = _
  unfold V
  congr 1; funext a; apply Fin.ext
  match a with
  | ⟨0, _⟩ => show win0_2.index t 0 * 1024 + 1 * r.val = t.val * 1024 + r.val; rw [(index2 t).1]; omega
  | ⟨1, _⟩ => show win0_2.index t 1 * 2048 + 1 * k.val = k.val; rw [(index2 t).2]; omega

/-- The whole result: `x + mix @ w_o`. -/
def G (a0 : S8192x2048.Idx → EReal) (a1 : S2048x2048.Idx → EReal) (a2 : S8192x2048.Idx → EReal) : S8192x2048.Idx → EReal :=
  fun i => a2 (ix2 (i 0) (i 1)) + ∑ k : Fin 2048, a0 (ix2 (i 0) k) * a1 (ix2 k (i 1))

def Gm (c : Dev nD) : Buf (Elt Ideal) ((c : Thread nD τ).loc main_v0) :=
  G (m ((c : Thread nD τ).loc main_arg0)) (m ((c : Thread nD τ).loc main_arg1)) (m ((c : Thread nD τ).loc main_arg2))

theorem flushed_eq (c : Dev nD) (t : Fin cfg0.N) :
    (dats m 0 c).flushed 3 t = ((cfg0.win 3).blk t).view.read (Elt Ideal) (Gm m c) := by
  rw [flushed3]; funext y
  have hy0 : (y 0).val < 1024 := (y 0).isLt
  have hy1 : (y 1).val < 2048 := (y 1).isLt
  have e1 : (cfg0.win 3).xinj (grid0.coords t) y = (ix2 (⟨(y 0).val, hy0⟩ : Fin 1024) (⟨(y 1).val, hy1⟩ : Fin 2048) : S1024x2048.Idx) := by
    funext a; apply Fin.ext
    match a with
    | ⟨0, _⟩ => rfl
    | ⟨1, _⟩ => rfl
  have e2 : ((cfg0.win 3).blk t).view.emb y = (ix2 (row t ⟨(y 0).val, hy0⟩) (⟨(y 1).val, hy1⟩ : Fin 2048) : S8192x2048.Idx) := by
    funext a; apply Fin.ext
    match a with
    | ⟨0, _⟩ => show win0_3.index t 0 * 1024 + 1 * (y 0).val = t.val * 1024 + (y 0).val; rw [(index3 t).1]; omega
    | ⟨1, _⟩ => show win0_3.index t 1 * 2048 + 1 * (y 1).val = (y 1).val; rw [(index3 t).2]; omega
  refine (congrArg (out0_3 (iblk m c 0 t) (iblk m c 1 t) (iblk m c 2 t)) e1).trans ?_
  refine Eq.trans ?_ (congrArg (Gm m c) e2).symm
  rw [out_apply]
  simp only [blk0, blk1, blk2]
  rfl

theorem covered (i : S8192x2048.Idx) : ∃ t : Fin cfg0.N, (cfg0.win 3).flush t = true ∧ i ∈ ((cfg0.win 3).blk t).view.set := by
  have h0 : (i 0).val < 8192 := (i 0).isLt
  have h1 : (i 1).val < 2048 := (i 1).isLt
  have hN : (i 0).val / 1024 < cfg0.N := by rw [show cfg0.N = 8 from N_0]; omega
  refine ⟨⟨(i 0).val / 1024, hN⟩, flush3 _, ?_⟩
  show i ∈ ((View.whole main_v0).slice (win0_3.rect ⟨(i 0).val / 1024, hN⟩)).set
  rw [View.set_slice_whole, Rect.mem_set_unit]
  have e := index3 ⟨(i 0).val / 1024, hN⟩
  intro a
  match a with
  | ⟨0, _⟩ => show win0_3.index ⟨(i 0).val / 1024, hN⟩ 0 * 1024 ≤ (i 0).val ∧ (i 0).val < win0_3.index ⟨(i 0).val / 1024, hN⟩ 0 * 1024 + 1024; rw [e.1]; dsimp only; omega
  | ⟨1, _⟩ => show win0_3.index ⟨(i 0).val / 1024, hN⟩ 1 * 2048 ≤ (i 1).val ∧ (i 1).val < win0_3.index ⟨(i 0).val / 1024, hN⟩ 1 * 2048 + 2048; rw [e.2]; omega

theorem final (c : Dev nD) : (dats m 0 c).arrAt 3 cfg0.N = Gm m c :=
  (dats m 0 c).arrAt_eq_of_cover 3 (Gm m c) (fun t _ => flushed_eq m c t) (fun i => covered i)

/-- The value claim of the output projection. -/
theorem algebraic : algebraic_Kernel7Ideal_Reference7Ideal := by
  intro m g m' g' _ hag
  refine ⟨fun c => Gm m c, (θ_run _ _ _).mono (fun r h c => ⟨(h c).1.trans (final m c), (h c).2⟩) (run_blocks m g),
    (θ_run _ _ _).mono (fun r h c => ⟨(h c).1.trans ?_, (h c).2⟩) (Cert.Reference7Ideal.Value.run m' g')⟩
  rw [(hag c).1, (hag c).2.1, (hag c).2.2]
  unfold Gm
  funext j
  idx_vars j
  pointwise [G] <;> rfl

end Cert.Kernel7Ideal.OutProj

end
-- ==== Proof.OutProjLoss.lean ====
module

public import proofs.«01_k».proof.Defs
public import proofs.«01_k».proof.Proof.Blocks
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.TwoAxisContraction

/-!
The last layer's output projection with the loss: each of 16 points computes 512 rows of the error `x + mix @ w_o - tgt`, of
its gradient and of the gradient to the mixer's output. The squares of the error are summed over the points, column by column,
in one row that stays in place.
-/

@[expose] public section

set_option maxRecDepth 16384

noncomputable section

namespace Cert.Kernel8Ideal.OutProjLoss

open Idealize.ShloMosaic Idealize.ShloMosaic.TcCoe Idealize.ShloMosaic.Tactic Idealize.ShloMosaic.StableHlo
open Idealize.SL.Sem
open Cert.Kernel8Ideal Cert.Kernel8Ideal.Gen Cert.Kernel8Ideal.Value

variable (m : (ℓ : Loc nD τ sig) → Buf (Elt Ideal) ℓ)

theorem hz : (![0, 0] : Fin 2 → Nat) = fun _ => 0 := funext fun a => by fin_cases a <;> rfl

/-! ## The payloads -/

theorem pay2_apply (x2 : Vec Ideal S512x2048 .f32) (x0 : Vec Ideal S512x2048 .bf16) (x1 : Vec Ideal S2048x2048 .bf16) (x3 : Vec Ideal S512x2048 .f32)
    (r : Fin 512) (l : Fin 2048) :
    k0_pay2 x2 x0 x1 x3 (ix2 r l) = x2 (ix2 r l) + (∑ k : Fin 2048, x0 (ix2 r k) * x1 (ix2 k l)) - x3 (ix2 r l) := by
  pointwise [k0_pay2]

theorem pay3_apply (x2 : Vec Ideal S512x2048 .f32) (x0 : Vec Ideal S512x2048 .bf16) (x1 : Vec Ideal S2048x2048 .bf16) (x3 : Vec Ideal S512x2048 .f32)
    (r : Fin 512) (l : Fin 2048) :
    k0_pay3 x2 x0 x1 x3 (ix2 r l) = k0_pay2 x2 x0 x1 x3 (ix2 r l) * Ideal.ofBits .f32 0x3A000000#32 := by
  pointwise [k0_pay3]

theorem pay4_eq (x2 : Vec Ideal S512x2048 .f32) (x0 : Vec Ideal S512x2048 .bf16) (x1 : Vec Ideal S2048x2048 .bf16) (x3 : Vec Ideal S512x2048 .f32) :
    k0_pay4 x2 x0 x1 x3 = k0_pay3 x2 x0 x1 x3 := rfl

theorem pay5_apply (x2 : Vec Ideal S512x2048 .f32) (x0 : Vec Ideal S512x2048 .bf16) (x1 : Vec Ideal S2048x2048 .bf16) (x3 : Vec Ideal S512x2048 .f32)
    (acc : Vec Ideal S1x2048 .f32) (l : Fin 2048) :
    k0_pay5 x2 x0 x1 x3 acc (ix2 0 l)
      = acc (ix2 0 l) + ∑ r : Fin 512, k0_pay2 x2 x0 x1 x3 (ix2 r l) * k0_pay2 x2 x0 x1 x3 (ix2 r l) := by
  pointwise [k0_pay5]

theorem pay6_apply (x2 : Vec Ideal S512x2048 .f32) (x0 : Vec Ideal S512x2048 .bf16) (x1 : Vec Ideal S2048x2048 .bf16) (x3 : Vec Ideal S512x2048 .f32)
    (w : Vec Ideal S2048x2048 .bf16) (r : Fin 512) (l : Fin 2048) :
    k0_pay6 x2 x0 x1 x3 w (ix2 r l) = ∑ k : Fin 2048, k0_pay3 x2 x0 x1 x3 (ix2 r k) * w (ix2 l k) := by
  show matmul dot_S512x2048_S2048x2048_S512x2048_1_1_0_0_n_n none (k0_pay4 x2 x0 x1 x3) w (constant S512x2048 .f32 0x00000000#32) (ix2 r l) = _
  rw [pay4_eq]
  generalize k0_pay3 x2 x0 x1 x3 = y
  pointwise []

theorem pay1_apply (l : Fin 2048) : (k0_pay1 (F := Ideal)) (ix2 0 l) = 0 := by
  pointwise [k0_pay1]

/-! ## What each point leaves -/

section
variable (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole)
  (x0 : Vec Ideal S512x2048 .bf16) (x1 : Vec Ideal S2048x2048 .bf16) (x2 : Vec Ideal S512x2048 .f32) (x3 : Vec Ideal S512x2048 .f32) (xo6 : Vec Ideal S1x2048 .f32)

theorem out_A_4 (hc0 : cond0_0 i) : out0_A_4 c i arg1 harg1 arg2 harg2 arg3 harg3 arg4 harg4 arg5 harg5 arg6 harg6 arg7 harg7 arg8 harg8 hc0 x0 x1 x2 x3 = k0_pay3 x2 x0 x1 x3 := by
  unfold out0_A_4
  rw [View.read_writes_eq_canon _ _ _ (cover0_A_4 c i arg1 harg1 arg2 harg2 arg3 harg3 arg4 harg4 arg5 harg5 arg6 harg6 arg7 harg7 arg8 harg8 hc0 x0 x1 x2 x3)]
  unfold kernelRun0_A; dsimp only; sl_unfold_words
  first
    | rw [View.canon_unit_zero (S := S512x2048) hz]
    | rw [View.canon_cons_unit_zero (S := S512x2048) hz]
  simp only [View.readAt_eq_ld, harg1.read_unread, harg2.read_unread, harg3.read_unread, harg4.read_unread, harg7.read_unread,
    View.ld_unit_zero (S := S512x2048) hz, View.ld_unit_zero (S := S2048x2048) hz, View.ld_unit_zero (S := S1x2048) hz,
    View.readCov_unit_zero (S := S1x2048) _ hz]

theorem out_A_5 (hc0 : cond0_0 i) : out0_A_5 c i arg1 harg1 arg2 harg2 arg3 harg3 arg4 harg4 arg5 harg5 arg6 harg6 arg7 harg7 arg8 harg8 hc0 x0 x1 x2 x3 = k0_pay4 x2 x0 x1 x3 := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3)]
  unfold kernelRun0_A; dsimp only; sl_unfold_words
  first
    | rw [View.canon_unit_zero (S := S512x2048) hz]
    | rw [View.canon_cons_unit_zero (S := S512x2048) hz]
  simp only [View.readAt_eq_ld, harg1.read_unread, harg2.read_unread, harg3.read_unread, harg4.read_unread, harg7.read_unread,
    View.ld_unit_zero (S := S512x2048) hz, View.ld_unit_zero (S := S2048x2048) hz, View.ld_unit_zero (S := S1x2048) hz,
    View.readCov_unit_zero (S := S1x2048) _ hz]

theorem out_A_6 (hc0 : cond0_0 i) : out0_A_6 c i arg1 harg1 arg2 harg2 arg3 harg3 arg4 harg4 arg5 harg5 arg6 harg6 arg7 harg7 arg8 harg8 hc0 x0 x1 x2 x3 = k0_pay5 x2 x0 x1 x3 (k0_pay1 (F := Ideal)) := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3)]
  unfold kernelRun0_A; dsimp only; sl_unfold_words
  first
    | rw [View.canon_unit_zero (S := S1x2048) hz]
    | rw [View.canon_cons_unit_zero (S := S1x2048) hz]
  simp only [View.readAt_eq_ld, harg1.read_unread, harg2.read_unread, harg3.read_unread, harg4.read_unread, harg7.read_unread,
    View.ld_unit_zero (S := S512x2048) hz, View.ld_unit_zero (S := S2048x2048) hz, View.ld_unit_zero (S := S1x2048) hz,
    View.readCov_unit_zero (S := S1x2048) _ hz]

theorem out_A_7 (hc0 : cond0_0 i) : out0_A_7 c i arg1 harg1 arg2 harg2 arg3 harg3 arg4 harg4 arg5 harg5 arg6 harg6 arg7 harg7 arg8 harg8 hc0 x0 x1 x2 x3 = k0_pay6 x2 x0 x1 x3 x1 := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3)]
  unfold kernelRun0_A; dsimp only; sl_unfold_words
  first
    | rw [View.canon_unit_zero (S := S512x2048) hz]
    | rw [View.canon_cons_unit_zero (S := S512x2048) hz]
  simp only [View.readAt_eq_ld, harg1.read_unread, harg2.read_unread, harg3.read_unread, harg4.read_unread, harg7.read_unread,
    View.ld_unit_zero (S := S512x2048) hz, View.ld_unit_zero (S := S2048x2048) hz, View.ld_unit_zero (S := S1x2048) hz,
    View.readCov_unit_zero (S := S1x2048) _ hz]

theorem out_B_4 (hc0 : ¬cond0_0 i) : out0_B_4 c i arg1 harg1 arg2 harg2 arg3 harg3 arg4 harg4 arg5 harg5 arg6 harg6 arg7 harg7 arg8 harg8 hc0 x0 x1 x2 x3 xo6 = k0_pay3 x2 x0 x1 x3 := by
  unfold out0_B_4
  rw [View.read_writes_eq_canon _ _ _ (cover0_B_4 c i arg1 harg1 arg2 harg2 arg3 harg3 arg4 harg4 arg5 harg5 arg6 harg6 arg7 harg7 arg8 harg8 hc0 x0 x1 x2 x3 xo6)]
  unfold kernelRun0_B; dsimp only; sl_unfold_words
  first
    | rw [View.canon_unit_zero (S := S512x2048) hz]
    | rw [View.canon_cons_unit_zero (S := S512x2048) hz]
  simp only [View.readAt_eq_ld, harg1.read_unread, harg2.read_unread, harg3.read_unread, harg4.read_unread, harg7.read_unread,
    View.ld_unit_zero (S := S512x2048) hz, View.ld_unit_zero (S := S2048x2048) hz, View.ld_unit_zero (S := S1x2048) hz,
    View.readCov_unit_zero (S := S1x2048) _ hz]

theorem out_B_5 (hc0 : ¬cond0_0 i) : out0_B_5 c i arg1 harg1 arg2 harg2 arg3 harg3 arg4 harg4 arg5 harg5 arg6 harg6 arg7 harg7 arg8 harg8 hc0 x0 x1 x2 x3 xo6 = k0_pay4 x2 x0 x1 x3 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 xo6)]
  unfold kernelRun0_B; dsimp only; sl_unfold_words
  first
    | rw [View.canon_unit_zero (S := S512x2048) hz]
    | rw [View.canon_cons_unit_zero (S := S512x2048) hz]
  simp only [View.readAt_eq_ld, harg1.read_unread, harg2.read_unread, harg3.read_unread, harg4.read_unread, harg7.read_unread,
    View.ld_unit_zero (S := S512x2048) hz, View.ld_unit_zero (S := S2048x2048) hz, View.ld_unit_zero (S := S1x2048) hz,
    View.readCov_unit_zero (S := S1x2048) _ hz]

theorem out_B_6 (hc0 : ¬cond0_0 i) : out0_B_6 c i arg1 harg1 arg2 harg2 arg3 harg3 arg4 harg4 arg5 harg5 arg6 harg6 arg7 harg7 arg8 harg8 hc0 x0 x1 x2 x3 xo6 = k0_pay5 x2 x0 x1 x3 xo6 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 xo6)]
  unfold kernelRun0_B; dsimp only; sl_unfold_words
  first
    | rw [View.canon_unit_zero (S := S1x2048) hz]
    | rw [View.canon_cons_unit_zero (S := S1x2048) hz]
  simp only [View.readAt_eq_ld, harg1.read_unread, harg2.read_unread, harg3.read_unread, harg4.read_unread, harg7.read_unread,
    View.ld_unit_zero (S := S512x2048) hz, View.ld_unit_zero (S := S2048x2048) hz, View.ld_unit_zero (S := S1x2048) hz,
    View.readCov_unit_zero (S := S1x2048) _ hz]

theorem out_B_7 (hc0 : ¬cond0_0 i) : out0_B_7 c i arg1 harg1 arg2 harg2 arg3 harg3 arg4 harg4 arg5 harg5 arg6 harg6 arg7 harg7 arg8 harg8 hc0 x0 x1 x2 x3 xo6 = k0_pay6 x2 x0 x1 x3 x1 := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 xo6)]
  unfold kernelRun0_B; dsimp only; sl_unfold_words
  first
    | rw [View.canon_unit_zero (S := S512x2048) hz]
    | rw [View.canon_cons_unit_zero (S := S512x2048) hz]
  simp only [View.readAt_eq_ld, harg1.read_unread, harg2.read_unread, harg3.read_unread, harg4.read_unread, harg7.read_unread,
    View.ld_unit_zero (S := S512x2048) hz, View.ld_unit_zero (S := S2048x2048) hz, View.ld_unit_zero (S := S1x2048) hz,
    View.readCov_unit_zero (S := S1x2048) _ hz]

end

/-! ## What each point reads -/

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = t.val ∧ win0_7.index t 1 = 0 :=
  (by decide +kernel : ∀ t : Fin grid0.N, win0_7.index t 0 = t.val ∧ win0_7.index t 1 = 0)

theorem row_lt (t : Fin cfg0.N) (r : Fin 512) : 512 * t.val + r.val < 8192 := by
  have := lt_of_lt_of_eq t.isLt (show cfg0.N = 16 from N_0)
  omega

/-- Row `r` of block `t`. -/
def row (t : Fin cfg0.N) (r : Fin 512) : Fin 8192 := ⟨512 * t.val + r.val, row_lt t r⟩

theorem blk0 (c : Dev nD) (t : Fin cfg0.N) (r : Fin 512) (k : Fin 2048) :
    iblk m c 0 t (ix2 r k : S512x2048.Idx) = m ((c : Thread nD τ).loc main_arg0) (ix2 (row t r) k) := by
  unfold iblk; rw [View.read_apply]
  show V m c main_arg0 _ = _
  unfold V
  congr 1; funext a; apply Fin.ext
  match a with
  | ⟨0, _⟩ => show win0_0.index t 0 * 512 + 1 * r.val = 512 * t.val + r.val; rw [(index0 t).1]; omega
  | ⟨1, _⟩ => show win0_0.index t 1 * 2048 + 1 * k.val = k.val; rw [(index0 t).2]; omega

theorem blk1 (c : Dev nD) (t : Fin cfg0.N) (r : Fin 2048) (k : Fin 2048) :
    iblk m c 1 t (ix2 r k : S2048x2048.Idx) = m ((c : Thread nD τ).loc main_arg1) (ix2 r k) := by
  unfold iblk; rw [View.read_apply]
  show V m c main_arg1 _ = _
  unfold V
  congr 1; funext a; apply Fin.ext
  match a with
  | ⟨0, _⟩ => show win0_1.index t 0 * 2048 + 1 * r.val = r.val; rw [(index1 t).1]; omega
  | ⟨1, _⟩ => show win0_1.index t 1 * 2048 + 1 * k.val = k.val; rw [(index1 t).2]; omega

theorem blk2 (c : Dev nD) (t : Fin cfg0.N) (r : Fin 512) (k : Fin 2048) :
    iblk m c 2 t (ix2 r k : S512x2048.Idx) = m ((c : Thread nD τ).loc main_arg2) (ix2 (row t r) k) := by
  unfold iblk; rw [View.read_apply]
  show V m c main_arg2 _ = _
  unfold V
  congr 1; funext a; apply Fin.ext
  match a with
  | ⟨0, _⟩ => show win0_2.index t 0 * 512 + 1 * r.val = 512 * t.val + r.val; rw [(index2 t).1]; omega
  | ⟨1, _⟩ => show win0_2.index t 1 * 2048 + 1 * k.val = k.val; rw [(index2 t).2]; omega

theorem blk3 (c : Dev nD) (t : Fin cfg0.N) (r : Fin 512) (k : Fin 2048) :
    iblk m c 3 t (ix2 r k : S512x2048.Idx) = m ((c : Thread nD τ).loc main_arg3) (ix2 (row t r) k) := by
  unfold iblk; rw [View.read_apply]
  show V m c main_arg3 _ = _
  unfold V
  congr 1; funext a; apply Fin.ext
  match a with
  | ⟨0, _⟩ => show win0_3.index t 0 * 512 + 1 * r.val = 512 * t.val + r.val; rw [(index3 t).1]; omega
  | ⟨1, _⟩ => show win0_3.index t 1 * 2048 + 1 * k.val = k.val; rw [(index3 t).2]; omega

/-! ## The results as functions of the arguments -/

/-- The error of token `n` in column `l`. -/
def E (a0 : S8192x2048.Idx → EReal) (a1 : S2048x2048.Idx → EReal) (a2 a3 : S8192x2048.Idx → EReal) (n : Fin 8192) (l : Fin 2048) : EReal :=
  a2 (ix2 n l) + (∑ k : Fin 2048, a0 (ix2 n k) * a1 (ix2 k l)) - a3 (ix2 n l)

/-- The gradient of the loss. -/
def GY (a0 : S8192x2048.Idx → EReal) (a1 : S2048x2048.Idx → EReal) (a2 a3 : S8192x2048.Idx → EReal) : S8192x2048.Idx → EReal := fun i => E a0 a1 a2 a3 (i 0) (i 1) * Ideal.ofBits .f32 0x3A000000#32

/-- The gradient to the mixer's output. -/
def GD (a0 : S8192x2048.Idx → EReal) (a1 : S2048x2048.Idx → EReal) (a2 a3 : S8192x2048.Idx → EReal) : S8192x2048.Idx → EReal := fun i => ∑ k : Fin 2048, GY a0 a1 a2 a3 (ix2 (i 0) k) * a1 (ix2 (i 1) k)

/-- The squared errors, summed over the tokens. -/
def GS (a0 : S8192x2048.Idx → EReal) (a1 : S2048x2048.Idx → EReal) (a2 a3 : S8192x2048.Idx → EReal) : S1x2048.Idx → EReal := fun i => ∑ n : Fin 8192, E a0 a1 a2 a3 n (i 1) * E a0 a1 a2 a3 n (i 1)

def Em (c : Dev nD) : Fin 8192 → Fin 2048 → EReal := E (m ((c : Thread nD τ).loc main_arg0)) (m ((c : Thread nD τ).loc main_arg1)) (m ((c : Thread nD τ).loc main_arg2)) (m ((c : Thread nD τ).loc main_arg3))
def GYm (c : Dev nD) : Buf (Elt Ideal) ((c : Thread nD τ).loc main_v0_0) := GY (m ((c : Thread nD τ).loc main_arg0)) (m ((c : Thread nD τ).loc main_arg1)) (m ((c : Thread nD τ).loc main_arg2)) (m ((c : Thread nD τ).loc main_arg3))
def GBm (c : Dev nD) : Buf (Elt Ideal) ((c : Thread nD τ).loc main_v0_1) := GY (m ((c : Thread nD τ).loc main_arg0)) (m ((c : Thread nD τ).loc main_arg1)) (m ((c : Thread nD τ).loc main_arg2)) (m ((c : Thread nD τ).loc main_arg3))
def GSm (c : Dev nD) : Buf (Elt Ideal) ((c : Thread nD τ).loc main_v0_2) := GS (m ((c : Thread nD τ).loc main_arg0)) (m ((c : Thread nD τ).loc main_arg1)) (m ((c : Thread nD τ).loc main_arg2)) (m ((c : Thread nD τ).loc main_arg3))
def GDm (c : Dev nD) : Buf (Elt Ideal) ((c : Thread nD τ).loc main_v0_3) := GD (m ((c : Thread nD τ).loc main_arg0)) (m ((c : Thread nD τ).loc main_arg1)) (m ((c : Thread nD τ).loc main_arg2)) (m ((c : Thread nD τ).loc main_arg3))

theorem e_blk (c : Dev nD) (t : Fin cfg0.N) (r : Fin 512) (l : Fin 2048) :
    k0_pay2 (iblk m c 2 t) (iblk m c 0 t) (iblk m c 1 t) (iblk m c 3 t) (ix2 r l) = Em m c (row t r) l := by
  rw [pay2_apply]
  simp only [blk0, blk1, blk2, blk3]
  rfl

theorem y_blk (c : Dev nD) (t : Fin cfg0.N) (r : Fin 512) (l : Fin 2048) :
    k0_pay3 (iblk m c 2 t) (iblk m c 0 t) (iblk m c 1 t) (iblk m c 3 t) (ix2 r l) = GYm m c (ix2 (row t r) l) := by
  rw [pay3_apply, e_blk]
  rfl

theorem d_blk (c : Dev nD) (t : Fin cfg0.N) (r : Fin 512) (l : Fin 2048) :
    k0_pay6 (iblk m c 2 t) (iblk m c 0 t) (iblk m c 1 t) (iblk m c 3 t) (iblk m c 1 t) (ix2 r l) = GDm m c (ix2 (row t r) l) := by
  rw [pay6_apply]
  simp only [y_blk, blk1]
  rfl

theorem outs4 (c : Dev nD) (t : Fin cfg0.N) : (outsAt0 m c t.val t.isLt).1 = k0_pay3 (iblk m c 2 t) (iblk m c 0 t) (iblk m c 1 t) (iblk m c 3 t) := by
  by_cases h0 : t.val % 16 = 0
  · refine (congrArg (fun o => o.1) (outsAt0_A m c t h0)).trans ?_
    dsimp only
    rw [out_A_4]
  · refine (congrArg (fun o => o.1) (outsAt0_B m c t h0)).trans ?_
    dsimp only
    rw [out_B_4]

theorem flushed4_eq (c : Dev nD) (t : Fin cfg0.N) :
    (dats m 0 c).flushed 4 t = ((cfg0.win 4).blk t).view.read (Elt Ideal) (GYm m c) := by
  show (cfg0.win 4).cut (grid0.coords t) ((dats m 0 c).after 4 t) = _
  rw [after0_4]; funext y
  have hy0 : (y 0).val < 512 := (y 0).isLt
  have hy1 : (y 1).val < 2048 := (y 1).isLt
  have e1 : (cfg0.win 4).xinj (grid0.coords t) y = (ix2 (⟨(y 0).val, hy0⟩ : Fin 512) (⟨(y 1).val, hy1⟩ : Fin 2048) : S512x2048.Idx) := by
    funext a; apply Fin.ext
    match a with
    | ⟨0, _⟩ => rfl
    | ⟨1, _⟩ => rfl
  have e2 : ((cfg0.win 4).blk t).view.emb y = (ix2 (row t ⟨(y 0).val, hy0⟩) (⟨(y 1).val, hy1⟩ : Fin 2048) : S8192x2048.Idx) := by
    funext a; apply Fin.ext
    match a with
    | ⟨0, _⟩ => show win0_4.index t 0 * 512 + 1 * (y 0).val = 512 * t.val + (y 0).val; rw [(index4 t).1]; omega
    | ⟨1, _⟩ => show win0_4.index t 1 * 2048 + 1 * (y 1).val = (y 1).val; rw [(index4 t).2]; omega
  refine (congrArg (outsAt0 m c t.val t.isLt).1 e1).trans ?_
  refine Eq.trans ?_ (congrArg (GYm m c) e2).symm
  rw [outs4]
  exact y_blk m c t _ _

theorem covered4 (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  have hN : (i 0).val / 512 < cfg0.N := by rw [show cfg0.N = 16 from N_0]; omega
  refine ⟨⟨(i 0).val / 512, hN⟩, flush0_4 _, ?_⟩
  show i ∈ ((View.whole main_v0_0).slice (win0_4.rect ⟨(i 0).val / 512, hN⟩)).set
  rw [View.set_slice_whole, Rect.mem_set_unit]
  have e := index4 ⟨(i 0).val / 512, hN⟩
  intro a
  match a with
  | ⟨0, _⟩ => show win0_4.index ⟨(i 0).val / 512, hN⟩ 0 * 512 ≤ (i 0).val ∧ (i 0).val < win0_4.index ⟨(i 0).val / 512, hN⟩ 0 * 512 + 512; rw [e.1]; dsimp only; omega
  | ⟨1, _⟩ => show win0_4.index ⟨(i 0).val / 512, hN⟩ 1 * 2048 ≤ (i 1).val ∧ (i 1).val < win0_4.index ⟨(i 0).val / 512, hN⟩ 1 * 2048 + 2048; rw [e.2]; omega

theorem final4 (c : Dev nD) : (dats m 0 c).arrAt 4 cfg0.N = GYm m c :=
  (dats m 0 c).arrAt_eq_of_cover 4 (GYm m c) (fun t _ => flushed4_eq m c t) (fun i => covered4 i)

theorem outs5 (c : Dev nD) (t : Fin cfg0.N) : (outsAt0 m c t.val t.isLt).2.1 = k0_pay4 (iblk m c 2 t) (iblk m c 0 t) (iblk m c 1 t) (iblk m c 3 t) := by
  by_cases h0 : t.val % 16 = 0
  · refine (congrArg (fun o => o.2.1) (outsAt0_A m c t h0)).trans ?_
    dsimp only
    rw [out_A_5]
  · refine (congrArg (fun o => o.2.1) (outsAt0_B m c t h0)).trans ?_
    dsimp only
    rw [out_B_5]

theorem flushed5_eq (c : Dev nD) (t : Fin cfg0.N) :
    (dats m 0 c).flushed 5 t = ((cfg0.win 5).blk t).view.read (Elt Ideal) (GBm m c) := by
  show (cfg0.win 5).cut (grid0.coords t) ((dats m 0 c).after 5 t) = _
  rw [after0_5]; funext y
  have hy0 : (y 0).val < 512 := (y 0).isLt
  have hy1 : (y 1).val < 2048 := (y 1).isLt
  have e1 : (cfg0.win 5).xinj (grid0.coords t) y = (ix2 (⟨(y 0).val, hy0⟩ : Fin 512) (⟨(y 1).val, hy1⟩ : Fin 2048) : S512x2048.Idx) := by
    funext a; apply Fin.ext
    match a with
    | ⟨0, _⟩ => rfl
    | ⟨1, _⟩ => rfl
  have e2 : ((cfg0.win 5).blk t).view.emb y = (ix2 (row t ⟨(y 0).val, hy0⟩) (⟨(y 1).val, hy1⟩ : Fin 2048) : S8192x2048.Idx) := by
    funext a; apply Fin.ext
    match a with
    | ⟨0, _⟩ => show win0_5.index t 0 * 512 + 1 * (y 0).val = 512 * t.val + (y 0).val; rw [(index5 t).1]; omega
    | ⟨1, _⟩ => show win0_5.index t 1 * 2048 + 1 * (y 1).val = (y 1).val; rw [(index5 t).2]; omega
  refine (congrArg (outsAt0 m c t.val t.isLt).2.1 e1).trans ?_
  refine Eq.trans ?_ (congrArg (GBm m c) e2).symm
  rw [outs5]
  exact y_blk m c t _ _

theorem covered5 (i : S8192x2048.Idx) : ∃ t : Fin cfg0.N, (cfg0.win 5).flush t = true ∧ i ∈ ((cfg0.win 5).blk t).view.set := by
  have h0 : (i 0).val < 8192 := (i 0).isLt
  have h1 : (i 1).val < 2048 := (i 1).isLt
  have hN : (i 0).val / 512 < cfg0.N := by rw [show cfg0.N = 16 from N_0]; omega
  refine ⟨⟨(i 0).val / 512, hN⟩, flush0_5 _, ?_⟩
  show i ∈ ((View.whole main_v0_1).slice (win0_5.rect ⟨(i 0).val / 512, hN⟩)).set
  rw [View.set_slice_whole, Rect.mem_set_unit]
  have e := index5 ⟨(i 0).val / 512, hN⟩
  intro a
  match a with
  | ⟨0, _⟩ => show win0_5.index ⟨(i 0).val / 512, hN⟩ 0 * 512 ≤ (i 0).val ∧ (i 0).val < win0_5.index ⟨(i 0).val / 512, hN⟩ 0 * 512 + 512; rw [e.1]; dsimp only; omega
  | ⟨1, _⟩ => show win0_5.index ⟨(i 0).val / 512, hN⟩ 1 * 2048 ≤ (i 1).val ∧ (i 1).val < win0_5.index ⟨(i 0).val / 512, hN⟩ 1 * 2048 + 2048; rw [e.2]; omega

theorem final5 (c : Dev nD) : (dats m 0 c).arrAt 5 cfg0.N = GBm m c :=
  (dats m 0 c).arrAt_eq_of_cover 5 (GBm m c) (fun t _ => flushed5_eq m c t) (fun i => covered5 i)

theorem outs7 (c : Dev nD) (t : Fin cfg0.N) : (outsAt0 m c t.val t.isLt).2.2.2 = k0_pay6 (iblk m c 2 t) (iblk m c 0 t) (iblk m c 1 t) (iblk m c 3 t) (iblk m c 1 t) := by
  by_cases h0 : t.val % 16 = 0
  · refine (congrArg (fun o => o.2.2.2) (outsAt0_A m c t h0)).trans ?_
    dsimp only
    rw [out_A_7]
  · refine (congrArg (fun o => o.2.2.2) (outsAt0_B m c t h0)).trans ?_
    dsimp only
    rw [out_B_7]

theorem flushed7_eq (c : Dev nD) (t : Fin cfg0.N) :
    (dats m 0 c).flushed 7 t = ((cfg0.win 7).blk t).view.read (Elt Ideal) (GDm m c) := by
  show (cfg0.win 7).cut (grid0.coords t) ((dats m 0 c).after 7 t) = _
  rw [after0_7]; funext y
  have hy0 : (y 0).val < 512 := (y 0).isLt
  have hy1 : (y 1).val < 2048 := (y 1).isLt
  have e1 : (cfg0.win 7).xinj (grid0.coords t) y = (ix2 (⟨(y 0).val, hy0⟩ : Fin 512) (⟨(y 1).val, hy1⟩ : Fin 2048) : S512x2048.Idx) := by
    funext a; apply Fin.ext
    match a with
    | ⟨0, _⟩ => rfl
    | ⟨1, _⟩ => rfl
  have e2 : ((cfg0.win 7).blk t).view.emb y = (ix2 (row t ⟨(y 0).val, hy0⟩) (⟨(y 1).val, hy1⟩ : Fin 2048) : S8192x2048.Idx) := by
    funext a; apply Fin.ext
    match a with
    | ⟨0, _⟩ => show win0_7.index t 0 * 512 + 1 * (y 0).val = 512 * t.val + (y 0).val; rw [(index7 t).1]; omega
    | ⟨1, _⟩ => show win0_7.index t 1 * 2048 + 1 * (y 1).val = (y 1).val; rw [(index7 t).2]; omega
  refine (congrArg (outsAt0 m c t.val t.isLt).2.2.2 e1).trans ?_
  refine Eq.trans ?_ (congrArg (GDm m c) e2).symm
  rw [outs7]
  exact d_blk m c t _ _

theorem covered7 (i : S8192x2048.Idx) : ∃ t : Fin cfg0.N, (cfg0.win 7).flush t = true ∧ i ∈ ((cfg0.win 7).blk t).view.set := by
  have h0 : (i 0).val < 8192 := (i 0).isLt
  have h1 : (i 1).val < 2048 := (i 1).isLt
  have hN : (i 0).val / 512 < cfg0.N := by rw [show cfg0.N = 16 from N_0]; omega
  refine ⟨⟨(i 0).val / 512, hN⟩, flush0_7 _, ?_⟩
  show i ∈ ((View.whole main_v0_3).slice (win0_7.rect ⟨(i 0).val / 512, hN⟩)).set
  rw [View.set_slice_whole, Rect.mem_set_unit]
  have e := index7 ⟨(i 0).val / 512, hN⟩
  intro a
  match a with
  | ⟨0, _⟩ => show win0_7.index ⟨(i 0).val / 512, hN⟩ 0 * 512 ≤ (i 0).val ∧ (i 0).val < win0_7.index ⟨(i 0).val / 512, hN⟩ 0 * 512 + 512; rw [e.1]; dsimp only; omega
  | ⟨1, _⟩ => show win0_7.index ⟨(i 0).val / 512, hN⟩ 1 * 2048 ≤ (i 1).val ∧ (i 1).val < win0_7.index ⟨(i 0).val / 512, hN⟩ 1 * 2048 + 2048; rw [e.2]; omega

theorem final7 (c : Dev nD) : (dats m 0 c).arrAt 7 cfg0.N = GDm m c :=
  (dats m 0 c).arrAt_eq_of_cover 7 (GDm m c) (fun t _ => flushed7_eq m c t) (fun i => covered7 i)

/-! ## The squared errors -/

/-- What token `n` adds. -/
def T (c : Dev nD) (l : Fin 2048) (n : ℕ) : EReal :=
  if h : n < 8192 then Em m c ⟨n, h⟩ l * Em m c ⟨n, h⟩ l else 0

theorem step (c : Dev nD) (t : Fin cfg0.N) (acc : Vec Ideal S1x2048 .f32) (l : Fin 2048) :
    k0_pay5 (iblk m c 2 t) (iblk m c 0 t) (iblk m c 1 t) (iblk m c 3 t) acc (ix2 0 l)
      = acc (ix2 0 l) + ∑ k : Fin 512, T m c l (512 * t.val + k.val) := by
  rw [pay5_apply]
  refine congrArg _ (Finset.sum_congr rfl fun k _ => ?_)
  rw [e_blk]
  unfold T
  rw [dif_pos (row_lt t k)]
  rfl

theorem acc_eq (c : Dev nD) (l : Fin 2048) : ∀ (j : ℕ) (h : j < cfg0.N),
      (outsAt0 m c j h).2.2.1 (ix2 0 l) = ∑ s ∈ Finset.range (j + 1), ∑ k : Fin 512, T m c l (512 * s + k.val)
  | 0, h => by
    refine (congrArg (fun o => o.2.2.1 (ix2 0 l)) (outsAt0_A m c ⟨0, h⟩ (Nat.zero_mod _))).trans ?_
    dsimp only
    rw [out_A_6, step, pay1_apply, zero_add, Finset.sum_range_one]
  | j + 1, h => by
    have ih := acc_eq c l j (Nat.lt_of_succ_lt h)
    have h16 : j + 1 < 16 := lt_of_lt_of_eq h (show cfg0.N = 16 from N_0)
    refine (congrArg (fun o => o.2.2.1 (ix2 0 l)) (outsAt0_B m c ⟨j + 1, h⟩ (by dsimp only; omega))).trans ?_
    dsimp only
    rw [out_B_6, step, Finset.sum_range_succ _ (j + 1)]
    exact congrArg₂ (fun a b : EReal => a + b) ih rfl

theorem total (c : Dev nD) (l : Fin 2048) :
    ∑ s ∈ Finset.range 16, ∑ k : Fin 512, T m c l (512 * s + k.val) = GSm m c (ix2 0 l) := by
  rw [Cert.Blocks.sum_range_blocks (T m c l) 512 16, Finset.sum_range]
  show ∑ n : Fin 8192, T m c l n.val = _
  unfold GSm GS
  refine Finset.sum_congr rfl fun n _ => ?_
  unfold T
  rw [dif_pos n.isLt]
  rfl

theorem flushed6_eq (c : Dev nD) (t : Fin cfg0.N) (hf : (cfg0.win 6).flush t = true) :
    (dats m 0 c).flushed 6 t = ((cfg0.win 6).blk t).view.read (Elt Ideal) (GSm m c) := by
  have hm : t.val % 16 = 15 := (flush0_6 t).mp hf
  have h16 : t.val < 16 := lt_of_lt_of_eq t.isLt (show cfg0.N = 16 from N_0)
  show (cfg0.win 6).cut (grid0.coords t) ((dats m 0 c).after 6 t) = _
  rw [after0_6]; funext y
  have hy0 : (y 0).val < 1 := (y 0).isLt
  have hy1 : (y 1).val < 2048 := (y 1).isLt
  have e1 : (cfg0.win 6).xinj (grid0.coords t) y = (ix2 (0 : Fin 1) (⟨(y 1).val, hy1⟩ : Fin 2048) : S1x2048.Idx) := by
    funext a; apply Fin.ext
    match a with
    | ⟨0, _⟩ => show (y 0).val = 0; omega
    | ⟨1, _⟩ => rfl
  have e2 : ((cfg0.win 6).blk t).view.emb y = (ix2 (0 : Fin 1) (⟨(y 1).val, hy1⟩ : Fin 2048) : S1x2048.Idx) := by
    funext a; apply Fin.ext
    match a with
    | ⟨0, _⟩ => show win0_6.index t 0 * 1 + 1 * (y 0).val = 0; rw [(index6 t).1]; omega
    | ⟨1, _⟩ => show win0_6.index t 1 * 2048 + 1 * (y 1).val = (y 1).val; rw [(index6 t).2]; omega
  refine (congrArg (outsAt0 m c t.val t.isLt).2.2.1 e1).trans ?_
  refine Eq.trans ?_ (congrArg (GSm m c) e2).symm
  rw [← total, acc_eq m c _ t.val t.isLt, show t.val + 1 = 16 by omega]

theorem covered6 (i : S1x2048.Idx) : ∃ t : Fin cfg0.N, (cfg0.win 6).flush t = true ∧ i ∈ ((cfg0.win 6).blk t).view.set := by
  have h0 : (i 0).val < 1 := (i 0).isLt
  have h1 : (i 1).val < 2048 := (i 1).isLt
  have hN : 15 < cfg0.N := by rw [show cfg0.N = 16 from N_0]; omega
  refine ⟨⟨15, hN⟩, (flush0_6 _).2 rfl, ?_⟩
  show i ∈ ((View.whole main_v0_2).slice (win0_6.rect ⟨15, hN⟩)).set
  rw [View.set_slice_whole, Rect.mem_set_unit]
  have e := index6 ⟨15, hN⟩
  intro a
  match a with
  | ⟨0, _⟩ => show win0_6.index ⟨15, hN⟩ 0 * 1 ≤ (i 0).val ∧ (i 0).val < win0_6.index ⟨15, hN⟩ 0 * 1 + 1; rw [e.1]; omega
  | ⟨1, _⟩ => show win0_6.index ⟨15, hN⟩ 1 * 2048 ≤ (i 1).val ∧ (i 1).val < win0_6.index ⟨15, hN⟩ 1 * 2048 + 2048; rw [e.2]; omega

theorem final6 (c : Dev nD) : (dats m 0 c).arrAt 6 cfg0.N = GSm m c :=
  (dats m 0 c).arrAt_eq_of_cover 6 (GSm m c) (fun t hf => flushed6_eq m c t hf) (fun i => covered6 i)

/-! ## The reference -/

theorem c_eq : Ideal.ofBits .f32 0x3A000000#32 = ((1 / 2048 : ℝ) : EReal) := by
  rw [show (1 / 2048 : ℝ) = 8388608 * (1 / 17179869184) by norm_num, EReal.coe_mul]
  simp [Ideal.ofBits, Ideal.ieee]
  try norm_num

theorem n_eq : Ideal.ofBits .f32 0x45000000#32 = ((2048 : ℝ) : EReal) := by
  rw [show (2048 : ℝ) = 8388608 * (1 / 4096) by norm_num, EReal.coe_mul]
  simp [Ideal.ofBits, Ideal.ieee]
  try norm_num

theorem two_eq : Ideal.ofBits .f32 0x40000000#32 = ((2 : ℝ) : EReal) := by
  rw [show (2 : ℝ) = 8388608 * (1 / 4194304) by norm_num, EReal.coe_mul]
  simp [Ideal.ofBits, Ideal.ieee]
  try norm_num

theorem half_eq : Ideal.ofBits .f32 0x3F000000#32 = ((1 / 2 : ℝ) : EReal) := by
  rw [show (1 / 2 : ℝ) = 8388608 * (1 / 16777216) by norm_num, EReal.coe_mul]
  simp [Ideal.ofBits, Ideal.ieee]
  try norm_num

theorem scale (e : EReal) :
    Ideal.div (Ideal.ofBits .f32 0x3F000000#32) (Ideal.ofBits .f32 0x45000000#32) * (Ideal.ofBits .f32 0x40000000#32 * e)
      = e * Ideal.ofBits .f32 0x3A000000#32 := by
  rw [c_eq, n_eq, two_eq, half_eq, ← mul_assoc, mul_comm e]
  congr 1
  rw [show Ideal.div ((1 / 2 : ℝ) : EReal) ((2048 : ℝ) : EReal) = ((1 / 4096 : ℝ) : EReal) from ?_, ← EReal.coe_mul]
  · norm_num
  · rw [Ideal.div_coe (show (2048 : ℝ) ≠ 0 by norm_num), ← EReal.coe_mul]
    norm_num

open Cert.Reference8Ideal.Read in
theorem ref_y (a0 : S8192x2048.Idx → EReal) (a1 : S2048x2048.Idx → EReal) (a2 a3 : S8192x2048.Idx → EReal) (r : Fin 8192) (l : Fin 2048) :
    val_main_v22 (F := Ideal) a0 a1 a2 a3 (ix2 r l) = GY a0 a1 a2 a3 (ix2 r l) := by
  pointwise [val_main_v0, val_main_v1, val_main_v2, val_main_v3, val_main_v4, val_main_v5, val_main_v6, val_main_v7, val_main_v8, val_main_cst, val_main_v9, val_main_v10, val_main_cst_0, val_main_v11, val_main_cst_1, val_main_v12, val_main_v13, val_main_cst_2, val_main_v14, val_main_cst_3, val_main_v15, val_main_cst_4, val_main_cst_5, val_main_v16, val_main_v17, val_main_cst_6, val_main_v18, val_main_v19, val_main_v20, val_main_v21, val_main_cst_7, val_main_v22, GY, E]
  simp only [scale]
  exact Fin.sum_univ_one _

open Cert.Reference8Ideal.Read in
theorem ref_d (a0 : S8192x2048.Idx → EReal) (a1 : S2048x2048.Idx → EReal) (a2 a3 : S8192x2048.Idx → EReal) (r : Fin 8192) (l : Fin 2048) :
    val_main_v34 (F := Ideal) a0 a1 a2 a3 (ix2 r l) = ∑ k : Fin 2048, val_main_v22 (F := Ideal) a0 a1 a2 a3 (ix2 r k) * a1 (ix2 l k) := by
  pointwise [val_main_v23, val_main_v24, val_main_v25, val_main_v26, val_main_v27, val_main_v28, val_main_v29, val_main_v30, val_main_v31, val_main_v32, val_main_v33, val_main_cst_8, val_main_v34, val_main_v35, val_main_cst_9, val_main_v36, val_main_v37, val_main_v1]
  exact Fin.sum_univ_one _

open Cert.Reference8Ideal.Read in
theorem ref_s (a0 : S8192x2048.Idx → EReal) (a1 : S2048x2048.Idx → EReal) (a2 a3 : S8192x2048.Idx → EReal) (l : Fin 2048) :
    val_main_v37 (F := Ideal) a0 a1 a2 a3 (ix2 0 l) = GS a0 a1 a2 a3 (ix2 0 l) := by
  pointwise [val_main_v0, val_main_v1, val_main_v2, val_main_v3, val_main_v4, val_main_v5, val_main_v6, val_main_v7, val_main_v8, val_main_cst, val_main_v9, val_main_v10, val_main_cst_0, val_main_v11, val_main_cst_1, val_main_v12, val_main_v13, val_main_cst_2, val_main_v14, val_main_cst_3, val_main_v15, val_main_cst_4, val_main_cst_5, val_main_v16, val_main_v17, val_main_cst_6, val_main_v18, val_main_v19, val_main_v20, val_main_v21, val_main_cst_7, val_main_v22, val_main_v23, val_main_v24, val_main_v25, val_main_v26, val_main_v27, val_main_v28, val_main_v29, val_main_v30, val_main_v31, val_main_v32, val_main_v33, val_main_cst_8, val_main_v34, val_main_v35, val_main_cst_9, val_main_v36, val_main_v37, GS, E]

theorem agree_y (a0 : S8192x2048.Idx → EReal) (a1 : S2048x2048.Idx → EReal) (a2 a3 : S8192x2048.Idx → EReal) : Cert.Reference8Ideal.Read.val_main_v22 (F := Ideal) a0 a1 a2 a3 = GY a0 a1 a2 a3 := by
  funext j
  obtain ⟨r, l, rfl⟩ : ∃ (r : Fin 8192) (l : Fin 2048), j = ix2 r l := ⟨j 0, j 1, eq_ix2 j⟩
  exact ref_y a0 a1 a2 a3 r l

theorem agree_d (a0 : S8192x2048.Idx → EReal) (a1 : S2048x2048.Idx → EReal) (a2 a3 : S8192x2048.Idx → EReal) : Cert.Reference8Ideal.Read.val_main_v34 (F := Ideal) a0 a1 a2 a3 = GD a0 a1 a2 a3 := by
  funext j
  obtain ⟨r, l, rfl⟩ : ∃ (r : Fin 8192) (l : Fin 2048), j = ix2 r l := ⟨j 0, j 1, eq_ix2 j⟩
  rw [ref_d, agree_y]
  rfl

theorem agree_s (a0 : S8192x2048.Idx → EReal) (a1 : S2048x2048.Idx → EReal) (a2 a3 : S8192x2048.Idx → EReal) : Cert.Reference8Ideal.Read.val_main_v37 (F := Ideal) a0 a1 a2 a3 = GS a0 a1 a2 a3 := by
  funext j
  obtain ⟨r, l, rfl⟩ : ∃ (r : Fin 1) (l : Fin 2048), j = ix2 r l := ⟨j 0, j 1, eq_ix2 j⟩
  obtain rfl : r = 0 := Subsingleton.elim _ _
  exact ref_s a0 a1 a2 a3 l

/-- The value claim of the output projection with the loss. -/
theorem algebraic : algebraic_Kernel8Ideal_Reference8Ideal := by
  intro m g m' g' _ hag
  refine ⟨fun c => GYm m c, fun c => GBm m c, fun c => GSm m c, fun c => GDm m c,
    (θ_run _ _ _).mono (fun r h c => ⟨(h c).1.trans (final4 m c), (h c).2.1.trans (final5 m c), (h c).2.2.1.trans (final6 m c), (h c).2.2.2.1.trans (final7 m c), (h c).2.2.2.2⟩) (run_blocks m g),
    (θ_run _ _ _).mono (fun r h c => ⟨(h c).1.trans ?_, (h c).2.1.trans ?_, (h c).2.2.1.trans ?_, (h c).2.2.2.1.trans ?_, (h c).2.2.2.2⟩) (Cert.Reference8Ideal.Value.run m' g')⟩
  · rw [Cert.Reference8Ideal.Read.val_main_v22_eq, (hag c).1, (hag c).2.1, (hag c).2.2.1, (hag c).2.2.2]
    exact agree_y _ _ _ _
  · rw [Cert.Reference8Ideal.Read.val_main_v35_eq, (hag c).1, (hag c).2.1, (hag c).2.2.1, (hag c).2.2.2]
    exact Eq.trans (show _ = Cert.Reference8Ideal.Read.val_main_v22 (F := Ideal) _ _ _ _ from rfl) (agree_y _ _ _ _)
  · refine Eq.trans (show _ = Cert.Reference8Ideal.Read.val_main_v37 (F := Ideal) (m' ((c.tc : Thread _ _).loc Cert.Reference8Ideal.main_arg0)) (m' ((c.tc : Thread _ _).loc Cert.Reference8Ideal.main_arg1))
      (m' ((c.tc : Thread _ _).loc Cert.Reference8Ideal.main_arg2)) (m' ((c.tc : Thread _ _).loc Cert.Reference8Ideal.main_arg3)) from rfl) ?_
    rw [(hag c).1, (hag c).2.1, (hag c).2.2.1, (hag c).2.2.2]
    exact agree_s _ _ _ _
  · rw [Cert.Reference8Ideal.Read.val_main_v34_eq, (hag c).1, (hag c).2.1, (hag c).2.2.1, (hag c).2.2.2]
    exact agree_d _ _ _ _

end Cert.Kernel8Ideal.OutProjLoss

end
-- ==== Proof.DhNorm1.lean ====
module

public import proofs.«01_k».proof.Defs
public import proofs.«01_k».proof.Proof.DhNorm
public import proofs.«01_k».proof.Proof.Gen.Kernel9Ideal.Value
public import proofs.«01_k».proof.Proof.Gen.Reference9Ideal.Run
public import proofs.«01_k».proof.Proof.Gen.Reference9Ideal.Read

/-!
The first layer's gradient through the norm and the input projection: the same kernel without the bf16 copy. What its
payloads compute, the sums and the agreement with the reference are those of the other layers (DhPoint, DhNorm).
-/

@[expose] public section

set_option maxRecDepth 16384

noncomputable section

namespace Cert.Kernel9Ideal.DhNorm1

open Idealize.ShloMosaic Idealize.ShloMosaic.TcCoe Idealize.ShloMosaic.Tactic Idealize.ShloMosaic.StableHlo
open Idealize.SL.Sem
open Cert.Kernel9Ideal Cert.Kernel9Ideal.Gen Cert.Kernel9Ideal.Value
open Cert.Kernel3Ideal.DhNorm (hz GX GD row row_lt)

theorem pay1_eq (v5 v16 : Vec Ideal S256x2048 .f32) (v36 : Vec Ideal S1x2048 .f32) :
    k0_pay1 v5 v16 v36 = Cert.Kernel3Ideal.Gen.k0_pay1 v5 v16 v36 := rfl
theorem pay2_eq : k0_pay2 (F := Ideal) = Cert.Kernel3Ideal.Gen.k0_pay2 := rfl
theorem pay3_eq (v3 : Vec Ideal S256x5632 .bf16) (v4 : Vec Ideal S5632x2048 .bf16) :
    k0_pay3 v3 v4 = Cert.Kernel3Ideal.Gen.k0_pay3 v3 v4 := rfl
theorem pay5_eq (v6 : Vec Ideal S256x2048 .f32) : k0_pay5 v6 = Cert.Kernel3Ideal.Gen.k0_pay5 v6 := rfl
theorem pay6_eq (v3 : Vec Ideal S256x5632 .bf16) (v4 : Vec Ideal S5632x2048 .bf16) (v6 : Vec Ideal S256x2048 .f32)
    (v17 : Vec Ideal S1x2048 .f32) (v26 : Vec Ideal S256x2048 .f32) :
    k0_pay6 v3 v4 v6 v17 v26 = Cert.Kernel3Ideal.Gen.k0_pay6 v3 v4 v6 v17 v26 := rfl

section
variable (c : Dev nD) (i : grid0.Coords) (arg1 : Memref sig .tc .vmem S256x5632 .bf16) (harg1 : arg1.IsWhole) (arg2 : Memref sig .tc .vmem S5632x2048 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S256x2048 .f32) (harg6 : arg6.IsWhole) (arg7 : Memref sig .tc .vmem S1x2048 .f32) (harg7 : arg7.IsWhole)
  (x0 : Vec Ideal S256x5632 .bf16) (x1 : Vec Ideal S5632x2048 .bf16) (x2 : Vec Ideal S256x2048 .f32) (x3 : Vec Ideal S256x2048 .f32)
  (x4 : Vec Ideal S1x2048 .f32) (xo6 : Vec Ideal S1x2048 .f32)

theorem out_A_5 (hc0 : cond0_0 i) : out0_A_5 c i arg1 harg1 arg2 harg2 arg3 harg3 arg4 harg4 arg5 harg5 arg6 harg6 arg7 harg7 hc0 x0 x1 x2 x3 x4 = k0_pay6 x0 x1 x2 x4 x3 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A; dsimp only; sl_unfold_words
  first
    | rw [View.canon_unit_zero (S := S256x2048) hz]
    | rw [View.canon_cons_unit_zero (S := S256x2048) hz]
  simp only [View.readAt_eq_ld, harg1.read_unread, harg2.read_unread, harg3.read_unread, harg4.read_unread, harg5.read_unread, harg7.read_unread,
    View.ld_unit_zero (S := S256x5632) hz, View.ld_unit_zero (S := S5632x2048) hz, View.ld_unit_zero (S := S256x2048) hz,
    View.ld_unit_zero (S := S1x2048) hz, View.readCov_unit_zero (S := S1x2048) _ hz]

theorem out_A_6 (hc0 : cond0_0 i) : out0_A_6 c i arg1 harg1 arg2 harg2 arg3 harg3 arg4 harg4 arg5 harg5 arg6 harg6 arg7 harg7 hc0 x0 x1 x2 x3 x4 = k0_pay1 (k0_pay3 x0 x1) (k0_pay5 x2) (k0_pay2 (F := Ideal)) := by
  unfold out0_A_6
  rw [View.read_writes_eq_canon _ _ _ (cover0_A_6 c i arg1 harg1 arg2 harg2 arg3 harg3 arg4 harg4 arg5 harg5 arg6 harg6 arg7 harg7 hc0 x0 x1 x2 x3 x4)]
  unfold kernelRun0_A; dsimp only; sl_unfold_words
  first
    | rw [View.canon_unit_zero (S := S1x2048) hz]
    | rw [View.canon_cons_unit_zero (S := S1x2048) hz]
  simp only [View.readAt_eq_ld, harg1.read_unread, harg2.read_unread, harg3.read_unread, harg4.read_unread, harg5.read_unread, harg7.read_unread,
    View.ld_unit_zero (S := S256x5632) hz, View.ld_unit_zero (S := S5632x2048) hz, View.ld_unit_zero (S := S256x2048) hz,
    View.ld_unit_zero (S := S1x2048) hz, View.readCov_unit_zero (S := S1x2048) _ hz]

theorem out_B_5 (hc0 : ¬cond0_0 i) : out0_B_5 c i arg1 harg1 arg2 harg2 arg3 harg3 arg4 harg4 arg5 harg5 arg6 harg6 arg7 harg7 hc0 x0 x1 x2 x3 x4 xo6 = k0_pay6 x0 x1 x2 x4 x3 := by
  unfold out0_B_5
  rw [View.read_writes_eq_canon _ _ _ (cover0_B_5 c i arg1 harg1 arg2 harg2 arg3 harg3 arg4 harg4 arg5 harg5 arg6 harg6 arg7 harg7 hc0 x0 x1 x2 x3 x4 xo6)]
  unfold kernelRun0_B; dsimp only; sl_unfold_words
  first
    | rw [View.canon_unit_zero (S := S256x2048) hz]
    | rw [View.canon_cons_unit_zero (S := S256x2048) hz]
  simp only [View.readAt_eq_ld, harg1.read_unread, harg2.read_unread, harg3.read_unread, harg4.read_unread, harg5.read_unread, harg7.read_unread,
    View.ld_unit_zero (S := S256x5632) hz, View.ld_unit_zero (S := S5632x2048) hz, View.ld_unit_zero (S := S256x2048) hz,
    View.ld_unit_zero (S := S1x2048) hz, View.readCov_unit_zero (S := S1x2048) _ hz]

theorem out_B_6 (hc0 : ¬cond0_0 i) : out0_B_6 c i arg1 harg1 arg2 harg2 arg3 harg3 arg4 harg4 arg5 harg5 arg6 harg6 arg7 harg7 hc0 x0 x1 x2 x3 x4 xo6 = k0_pay1 (k0_pay3 x0 x1) (k0_pay5 x2) xo6 := by
  unfold out0_B_6
  rw [View.read_writes_eq_canon _ _ _ (cover0_B_6 c i arg1 harg1 arg2 harg2 arg3 harg3 arg4 harg4 arg5 harg5 arg6 harg6 arg7 harg7 hc0 x0 x1 x2 x3 x4 xo6)]
  unfold kernelRun0_B; dsimp only; sl_unfold_words
  first
    | rw [View.canon_unit_zero (S := S1x2048) hz]
    | rw [View.canon_cons_unit_zero (S := S1x2048) hz]
  simp only [View.readAt_eq_ld, harg1.read_unread, harg2.read_unread, harg3.read_unread, harg4.read_unread, harg5.read_unread, harg7.read_unread,
    View.ld_unit_zero (S := S256x5632) hz, View.ld_unit_zero (S := S5632x2048) hz, View.ld_unit_zero (S := S256x2048) hz,
    View.ld_unit_zero (S := S1x2048) hz, View.readCov_unit_zero (S := S1x2048) _ hz]

end

variable (m : (ℓ : Loc nD τ sig) → Buf (Elt Ideal) ℓ)

/-! ## What each point reads -/

theorem V_arg0 (c : Dev nD) : V m c main_arg0 = m ((c : Thread nD τ).loc main_arg0) := by
  first | rfl | (unfold V; after_results <;> rfl)
theorem V_arg1 (c : Dev nD) : V m c main_arg1 = m ((c : Thread nD τ).loc main_arg1) := by
  first | rfl | (unfold V; after_results <;> rfl)
theorem V_arg2 (c : Dev nD) : V m c main_arg2 = m ((c : Thread nD τ).loc main_arg2) := by
  first | rfl | (unfold V; after_results <;> rfl)
theorem V_arg3 (c : Dev nD) : V m c main_arg3 = m ((c : Thread nD τ).loc main_arg3) := by
  first | rfl | (unfold V; after_results <;> rfl)
theorem V_v0 (c : Dev nD) : V m c main_v0 = broadcastInDim S1x2048 ![1] bcast_S2048_S1x2048_1 (m ((c : Thread nD τ).loc main_arg4)) := by
  after_results <;> rfl

theorem index0 : ∀ t : Fin cfg0.N, win0_0.index t 0 = t.val ∧ win0_0.index t 1 = 0 :=
  (by decide +kernel : ∀ t : Fin grid0.N, win0_0.index t 0 = t.val ∧ win0_0.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)

theorem blk0 (c : Dev nD) (t : Fin cfg0.N) (r : Fin 256) (k : Fin 5632) :
    iblk m c 0 t (ix2 r k : S256x5632.Idx) = m ((c : Thread nD τ).loc main_arg0) (ix2 (row t r) k) := by
  unfold iblk; rw [View.read_apply]
  show V m c main_arg0 _ = _
  rw [V_arg0]
  congr 1; funext a; apply Fin.ext
  match a with
  | ⟨0, _⟩ => show win0_0.index t 0 * 256 + 1 * r.val = 256 * t.val + r.val; rw [(index0 t).1]; omega
  | ⟨1, _⟩ => show win0_0.index t 1 * 5632 + 1 * k.val = k.val; rw [(index0 t).2]; omega

theorem blk1 (c : Dev nD) (t : Fin cfg0.N) (r : Fin 5632) (k : Fin 2048) :
    iblk m c 1 t (ix2 r k : S5632x2048.Idx) = m ((c : Thread nD τ).loc main_arg1) (ix2 (r) k) := by
  unfold iblk; rw [View.read_apply]
  show V m c main_arg1 _ = _
  rw [V_arg1]
  congr 1; funext a; apply Fin.ext
  match a with
  | ⟨0, _⟩ => show win0_1.index t 0 * 5632 + 1 * r.val = r.val; rw [(index1 t).1]; omega
  | ⟨1, _⟩ => show win0_1.index t 1 * 2048 + 1 * k.val = k.val; rw [(index1 t).2]; omega

theorem blk2 (c : Dev nD) (t : Fin cfg0.N) (r : Fin 256) (k : Fin 2048) :
    iblk m c 2 t (ix2 r k : S256x2048.Idx) = m ((c : Thread nD τ).loc main_arg2) (ix2 (row t r) k) := by
  unfold iblk; rw [View.read_apply]
  show V m c main_arg2 _ = _
  rw [V_arg2]
  congr 1; funext a; apply Fin.ext
  match a with
  | ⟨0, _⟩ => show win0_2.index t 0 * 256 + 1 * r.val = 256 * t.val + r.val; rw [(index2 t).1]; omega
  | ⟨1, _⟩ => show win0_2.index t 1 * 2048 + 1 * k.val = k.val; rw [(index2 t).2]; omega

theorem blk3 (c : Dev nD) (t : Fin cfg0.N) (r : Fin 256) (k : Fin 2048) :
    iblk m c 3 t (ix2 r k : S256x2048.Idx) = m ((c : Thread nD τ).loc main_arg3) (ix2 (row t r) k) := by
  unfold iblk; rw [View.read_apply]
  show V m c main_arg3 _ = _
  rw [V_arg3]
  congr 1; funext a; apply Fin.ext
  match a with
  | ⟨0, _⟩ => show win0_3.index t 0 * 256 + 1 * r.val = 256 * t.val + r.val; rw [(index3 t).1]; omega
  | ⟨1, _⟩ => show win0_3.index t 1 * 2048 + 1 * k.val = k.val; rw [(index3 t).2]; omega

theorem blk4 (c : Dev nD) (t : Fin cfg0.N) (k : Fin 2048) :
    iblk m c 4 t (ix2 0 k : S1x2048.Idx) = m ((c : Thread nD τ).loc main_arg4) (ix1 k) := by
  unfold iblk; rw [View.read_apply]
  show V m c main_v0 _ = _
  rw [V_v0]
  show m ((c : Thread nD τ).loc main_arg4) _ = _
  congr 1; funext a; apply Fin.ext
  match a with
  | ⟨0, _⟩ => show win0_4.index t 1 * 2048 + 1 * k.val = k.val; rw [(index4 t).2]; omega

/-! ## The gradient to the layer's input -/

def GXm (c : Dev nD) : Buf (Elt Ideal) ((c : Thread nD τ).loc main_v1_0) :=
  GX (m ((c : Thread nD τ).loc main_arg0)) (m ((c : Thread nD τ).loc main_arg1)) (m ((c : Thread nD τ).loc main_arg2))
    (m ((c : Thread nD τ).loc main_arg3)) (m ((c : Thread nD τ).loc main_arg4))

theorem dx_blk (c : Dev nD) (t : Fin cfg0.N) (r : Fin 256) (l : Fin 2048) :
    k0_pay6 (iblk m c 0 t) (iblk m c 1 t) (iblk m c 2 t) (iblk m c 4 t) (iblk m c 3 t) (ix2 r l)
      = GX (m ((c : Thread nD τ).loc main_arg0)) (m ((c : Thread nD τ).loc main_arg1)) (m ((c : Thread nD τ).loc main_arg2))
    (m ((c : Thread nD τ).loc main_arg3)) (m ((c : Thread nD τ).loc main_arg4)) (ix2 (row t r) l) := by
  rw [pay6_eq, Cert.Kernel3Ideal.DhNorm.pay6_apply]
  simp only [blk0, blk1, blk2, blk3, blk4]
  rfl

theorem outs5 (c : Dev nD) (t : Fin cfg0.N) : (outsAt0 m c t.val t.isLt).1
    = k0_pay6 (iblk m c 0 t) (iblk m c 1 t) (iblk m c 2 t) (iblk m c 4 t) (iblk m c 3 t) := by
  by_cases h0 : t.val % 32 = 0
  · refine (congrArg (fun o => o.1) (outsAt0_A m c t h0)).trans ?_
    dsimp only
    rw [out_A_5]
  · refine (congrArg (fun o => o.1) (outsAt0_B m c t h0)).trans ?_
    dsimp only
    rw [out_B_5]

theorem flushed5_eq (c : Dev nD) (t : Fin cfg0.N) :
    (dats m 0 c).flushed 5 t = ((cfg0.win 5).blk t).view.read (Elt Ideal) (GXm m c) := by
  show (cfg0.win 5).cut (grid0.coords t) ((dats m 0 c).after 5 t) = _
  rw [after0_5]; funext y
  have hy0 : (y 0).val < 256 := (y 0).isLt
  have hy1 : (y 1).val < 2048 := (y 1).isLt
  have e1 : (cfg0.win 5).xinj (grid0.coords t) y = (ix2 (⟨(y 0).val, hy0⟩ : Fin 256) (⟨(y 1).val, hy1⟩ : Fin 2048) : S256x2048.Idx) := by
    funext a; apply Fin.ext
    match a with
    | ⟨0, _⟩ => rfl
    | ⟨1, _⟩ => rfl
  have e2 : ((cfg0.win 5).blk t).view.emb y = (ix2 (row t ⟨(y 0).val, hy0⟩) (⟨(y 1).val, hy1⟩ : Fin 2048) : S8192x2048.Idx) := by
    funext a; apply Fin.ext
    match a with
    | ⟨0, _⟩ => show win0_5.index t 0 * 256 + 1 * (y 0).val = 256 * t.val + (y 0).val; rw [(index5 t).1]; omega
    | ⟨1, _⟩ => show win0_5.index t 1 * 2048 + 1 * (y 1).val = (y 1).val; rw [(index5 t).2]; omega
  refine (congrArg (outsAt0 m c t.val t.isLt).1 e1).trans ?_
  refine Eq.trans ?_ (congrArg (GXm m c) e2).symm
  rw [outs5]
  exact dx_blk m c t _ _

theorem covered5 (i : S8192x2048.Idx) : ∃ t : Fin cfg0.N, (cfg0.win 5).flush t = true ∧ i ∈ ((cfg0.win 5).blk t).view.set := by
  have h0 : (i 0).val < 8192 := (i 0).isLt
  have h1 : (i 1).val < 2048 := (i 1).isLt
  have hN : (i 0).val / 256 < cfg0.N := by rw [show cfg0.N = 32 from N_0]; omega
  refine ⟨⟨(i 0).val / 256, hN⟩, flush0_5 _, ?_⟩
  show i ∈ ((View.whole main_v1_0).slice (win0_5.rect ⟨(i 0).val / 256, hN⟩)).set
  rw [View.set_slice_whole, Rect.mem_set_unit]
  have e := index5 ⟨(i 0).val / 256, hN⟩
  intro a
  match a with
  | ⟨0, _⟩ => show win0_5.index ⟨(i 0).val / 256, hN⟩ 0 * 256 ≤ (i 0).val ∧ (i 0).val < win0_5.index ⟨(i 0).val / 256, hN⟩ 0 * 256 + 256; rw [e.1]; dsimp only; omega
  | ⟨1, _⟩ => show win0_5.index ⟨(i 0).val / 256, hN⟩ 1 * 2048 ≤ (i 1).val ∧ (i 1).val < win0_5.index ⟨(i 0).val / 256, hN⟩ 1 * 2048 + 2048; rw [e.2]; omega

theorem final5 (c : Dev nD) : (dats m 0 c).arrAt 5 cfg0.N = GXm m c :=
  (dats m 0 c).arrAt_eq_of_cover 5 (GXm m c) (fun t _ => flushed5_eq m c t) (fun i => covered5 i)

/-! ## The gradient to the gain -/

def GDm (c : Dev nD) : Buf (Elt Ideal) ((c : Thread nD τ).loc main_v1_1) :=
  GD (m ((c : Thread nD τ).loc main_arg0)) (m ((c : Thread nD τ).loc main_arg1)) (m ((c : Thread nD τ).loc main_arg2))
def Tm (c : Dev nD) : Fin 2048 → ℕ → EReal :=
  Cert.Kernel3Ideal.DhNorm.T (m ((c : Thread nD τ).loc main_arg0)) (m ((c : Thread nD τ).loc main_arg1)) (m ((c : Thread nD τ).loc main_arg2))

theorem step (c : Dev nD) (t : Fin cfg0.N) (acc : Vec Ideal S1x2048 .f32) (l : Fin 2048) :
    k0_pay1 (k0_pay3 (iblk m c 0 t) (iblk m c 1 t)) (k0_pay5 (iblk m c 2 t)) acc (ix2 0 l)
      = acc (ix2 0 l) + ∑ k : Fin 256, Tm m c l (256 * t.val + k.val) := by
  rw [pay1_eq, Cert.Kernel3Ideal.DhNorm.pay1_apply]
  refine congrArg _ (Finset.sum_congr rfl fun k _ => ?_)
  rw [pay3_eq, pay5_eq, Cert.Kernel3Ideal.DhNorm.pay3_apply, Cert.Kernel3Ideal.DhNorm.pay5_apply]
  simp only [blk0, blk1, blk2]
  unfold Tm Cert.Kernel3Ideal.DhNorm.T
  rw [dif_pos (row_lt t k)]
  rfl

theorem acc_eq (c : Dev nD) (l : Fin 2048) : ∀ (j : ℕ) (h : j < cfg0.N),
      (outsAt0 m c j h).2 (ix2 0 l) = ∑ s ∈ Finset.range (j + 1), ∑ k : Fin 256, Tm m c l (256 * s + k.val)
  | 0, h => by
    refine (congrArg (fun o => o.2 (ix2 0 l)) (outsAt0_A m c ⟨0, h⟩ (Nat.zero_mod _))).trans ?_
    dsimp only
    rw [out_A_6, step, pay2_eq, Cert.Kernel3Ideal.DhNorm.pay2_apply, zero_add, Finset.sum_range_one]
  | j + 1, h => by
    have ih := acc_eq c l j (Nat.lt_of_succ_lt h)
    have h32 : j + 1 < 32 := lt_of_lt_of_eq h (show cfg0.N = 32 from N_0)
    refine (congrArg (fun o => o.2 (ix2 0 l)) (outsAt0_B m c ⟨j + 1, h⟩ (by dsimp only; omega))).trans ?_
    dsimp only
    rw [out_B_6, step, Finset.sum_range_succ _ (j + 1)]
    exact congrArg₂ (fun a b : EReal => a + b) ih rfl

theorem total (c : Dev nD) (l : Fin 2048) :
    ∑ s ∈ Finset.range 32, ∑ k : Fin 256, Tm m c l (256 * s + k.val) = GDm m c (ix2 0 l) := by
  rw [Cert.Blocks.sum_range_blocks (Tm m c l) 256 32, Finset.sum_range]
  show ∑ n : Fin 8192, Tm m c l n.val = _
  unfold GDm GD
  refine Finset.sum_congr rfl fun n _ => ?_
  unfold Tm Cert.Kernel3Ideal.DhNorm.T
  rw [dif_pos n.isLt]
  rfl

theorem flushed6_eq (c : Dev nD) (t : Fin cfg0.N) (hf : (cfg0.win 6).flush t = true) :
    (dats m 0 c).flushed 6 t = ((cfg0.win 6).blk t).view.read (Elt Ideal) (GDm m c) := by
  have hm : t.val % 32 = 31 := (flush0_6 t).mp hf
  have h32 : t.val < 32 := lt_of_lt_of_eq t.isLt (show cfg0.N = 32 from N_0)
  show (cfg0.win 6).cut (grid0.coords t) ((dats m 0 c).after 6 t) = _
  rw [after0_6]; funext y
  have hy0 : (y 0).val < 1 := (y 0).isLt
  have hy1 : (y 1).val < 2048 := (y 1).isLt
  have e1 : (cfg0.win 6).xinj (grid0.coords t) y = (ix2 (0 : Fin 1) (⟨(y 1).val, hy1⟩ : Fin 2048) : S1x2048.Idx) := by
    funext a; apply Fin.ext
    match a with
    | ⟨0, _⟩ => show (y 0).val = 0; omega
    | ⟨1, _⟩ => rfl
  have e2 : ((cfg0.win 6).blk t).view.emb y = (ix2 (0 : Fin 1) (⟨(y 1).val, hy1⟩ : Fin 2048) : S1x2048.Idx) := by
    funext a; apply Fin.ext
    match a with
    | ⟨0, _⟩ => show win0_6.index t 0 * 1 + 1 * (y 0).val = 0; rw [(index6 t).1]; omega
    | ⟨1, _⟩ => show win0_6.index t 1 * 2048 + 1 * (y 1).val = (y 1).val; rw [(index6 t).2]; omega
  refine (congrArg (outsAt0 m c t.val t.isLt).2 e1).trans ?_
  refine Eq.trans ?_ (congrArg (GDm m c) e2).symm
  rw [← total, acc_eq m c _ t.val t.isLt, show t.val + 1 = 32 by omega]

theorem covered6 (i : S1x2048.Idx) : ∃ t : Fin cfg0.N, (cfg0.win 6).flush t = true ∧ i ∈ ((cfg0.win 6).blk t).view.set := by
  have h0 : (i 0).val < 1 := (i 0).isLt
  have h1 : (i 1).val < 2048 := (i 1).isLt
  have hN : 31 < cfg0.N := by rw [show cfg0.N = 32 from N_0]; omega
  refine ⟨⟨31, hN⟩, (flush0_6 _).2 rfl, ?_⟩
  show i ∈ ((View.whole main_v1_1).slice (win0_6.rect ⟨31, hN⟩)).set
  rw [View.set_slice_whole, Rect.mem_set_unit]
  have e := index6 ⟨31, hN⟩
  intro a
  match a with
  | ⟨0, _⟩ => show win0_6.index ⟨31, hN⟩ 0 * 1 ≤ (i 0).val ∧ (i 0).val < win0_6.index ⟨31, hN⟩ 0 * 1 + 1; rw [e.1]; omega
  | ⟨1, _⟩ => show win0_6.index ⟨31, hN⟩ 1 * 2048 ≤ (i 1).val ∧ (i 1).val < win0_6.index ⟨31, hN⟩ 1 * 2048 + 2048; rw [e.2]; omega

theorem final6 (c : Dev nD) : (dats m 0 c).arrAt 6 cfg0.N = GDm m c :=
  (dats m 0 c).arrAt_eq_of_cover 6 (GDm m c) (fun t hf => flushed6_eq m c t hf) (fun i => covered6 i)

/-! ## The claim -/

/-- The value claim of the first layer's gradient through the norm and the input projection. -/
theorem algebraic : algebraic_Kernel9Ideal_Reference9Ideal := by
  intro m g m' g' _ hag
  refine ⟨fun c => GXm m c, fun c => GDm m c,
    (θ_run _ _ _).mono (fun r h c => ⟨(h c).1.trans (final5 m c), (h c).2.1.trans (final6 m c), (h c).2.2⟩) (run_blocks m g),
    (θ_run _ _ _).mono (fun r h c => ⟨(h c).1.trans ?_, (h c).2.1.trans ?_, (h c).2.2⟩) (Cert.Reference9Ideal.Value.run m' g')⟩
  · rw [Cert.Reference9Ideal.Read.val_main_v46_eq, (hag c).1, (hag c).2.1, (hag c).2.2.1, (hag c).2.2.2.1, (hag c).2.2.2.2]
    exact Eq.trans (show _ = Cert.Reference3Ideal.Read.val_main_v46 (F := Ideal) _ _ _ _ _ from rfl)
      (Cert.Kernel3Ideal.DhNorm.agree _ _ _ _ _)
  · rw [Cert.Reference9Ideal.Read.val_main_v47_eq, (hag c).1, (hag c).2.1, (hag c).2.2.1]
    exact Eq.trans (show _ = Cert.Reference3Ideal.Read.val_main_v47 (F := Ideal) _ _ _ from rfl)
      (Cert.Kernel3Ideal.DhNorm.agree_gain _ _ _)

end Cert.Kernel9Ideal.DhNorm1

end
-- ==== Proof.MixRef.lean ====
module

public import proofs.«01_k».proof.Proof.Gen.Reference10Ideal.Read
public import Idealize.ShloMosaic.Lib.Pointwise
public import Idealize.ShloMosaic.Lib.IdealHost

/-!
The gradient to the spatial gating weights as one sum over chunks and lanes, and the reference's value as that sum. The
reference contracts three axes at once: the batch of one, the chunks and a head's lanes.
-/

@[expose] public section

set_option maxRecDepth 16384

noncomputable section

namespace Cert.MixTerms

open Idealize.ShloMosaic Idealize.ShloMosaic.TcCoe Idealize.ShloMosaic.Tactic

/-- The gelu of a value. -/
def gel (z : EReal) : EReal :=
  z * (Ideal.ofBits .f32 0x3F000000#32 * (Ideal.ofBits .f32 0x3F800000#32 + Ideal.erf (z * Ideal.ofBits .f32 0x3F3504F3#32)))

/-- The gradient to a mixed value: the gradient of its product with the gate's silu and the other half's gelu. -/
def dmx (d g z : EReal) : EReal :=
  d * (g * Ideal.div (Ideal.ofBits .f32 0x3F800000#32) (Ideal.ofBits .f32 0x3F800000#32 + Ideal.exp (Ideal.ofBits .f32 0x00000000#32 - g))) * gel z

/-- Token `a` of chunk `n`. -/
def tok (n : Fin 64) (a : Fin 128) : Fin 8192 := ⟨128 * n.val + a.val, by omega⟩
/-- Lane `q` of head `h`. -/
def lane (h : Fin 16) (q : Fin 64) : Fin 1024 := ⟨64 * h.val + q.val, by omega⟩
/-- The columns of the projection and of the mixer's gradient that belong to a lane. -/
def zu (k : Fin 1024) : Fin 5632 := ⟨2560 + k.val, by omega⟩
def zv (k : Fin 1024) : Fin 5632 := ⟨3584 + k.val, by omega⟩
def gb (k : Fin 1024) : Fin 5632 := ⟨4608 + k.val, by omega⟩
def dm (k : Fin 1024) : Fin 2048 := ⟨1024 + k.val, by omega⟩

/-- One chunk's part of the gradient to the weight of head `h` from token `b` to token `a`. -/
def part (p : (⟨2, ![8192, 5632]⟩ : Shape).Idx → EReal) (d : (⟨2, ![8192, 2048]⟩ : Shape).Idx → EReal) (h : Fin 16) (a b : Fin 128) (n : Fin 64) : EReal :=
  ∑ q : Fin 64, dmx (d (ix2 (tok n a) (dm (lane h q)))) (p (ix2 (tok n a) (gb (lane h q)))) (p (ix2 (tok n a) (zu (lane h q))))
    * gel (p (ix2 (tok n b) (zv (lane h q))))

/-- The gradient to the weights: the chunks' sum where `b` is not after `a`, and zero elsewhere. -/
def gw (p : (⟨2, ![8192, 5632]⟩ : Shape).Idx → EReal) (d : (⟨2, ![8192, 2048]⟩ : Shape).Idx → EReal) : (⟨3, ![16, 128, 128]⟩ : Shape).Idx → EReal :=
  fun i => if (i 2).val ≤ (i 1).val then ∑ n : Fin 64, part p d (i 0) (i 1) (i 2) n else 0

/-- The gelu by the complementary error function. -/
theorem gel_eq (z : EReal) :
    Ideal.ofBits .f32 0x3F000000#32 * z * Ideal.erfc (-z * Ideal.ofBits .f32 0x3F3504F3#32) = gel z := by
  unfold gel
  rw [EReal.neg_mul, Ideal.erfc_neg, Ideal.ofBits_one_f32, mul_comm _ z, mul_assoc]

theorem toInt_small (t : Fin 128) : (BitVec.ofNat 32 t.val).toInt = t.val := by
  revert t; decide

/-- The comparison that keeps the lower triangle. -/
theorem tri (t s : Fin 128) : IntOp.cmpi CmpIPredicate.sge (BitVec.ofNat 32 t.val) (BitVec.ofNat 32 s.val) = if s.val ≤ t.val then 1#1 else 0#1 := by
  show BitVec.ofBool (decide ((BitVec.ofNat 32 s.val).toInt ≤ (BitVec.ofNat 32 t.val).toInt)) = _
  rw [toInt_small, toInt_small]
  by_cases h : s.val ≤ t.val
  · rw [if_pos h, decide_eq_true (Int.ofNat_le.mpr h)]; rfl
  · rw [if_neg h, decide_eq_false (fun h' => h (Int.ofNat_le.mp h'))]; rfl

/-! ## A contraction of three axes -/

section
variable {sl sr so : Shape} (D : DotDims sl sr so) (n0 n1 n2 : ℕ) (hr : D.contr.rank = 3)
  (h0 : D.contr.size ⟨0, by omega⟩ = n0) (h1 : D.contr.size ⟨1, by omega⟩ = n1) (h2 : D.contr.size ⟨2, by omega⟩ = n2)

/-- The index of a contraction of three axes as its coordinates. -/
def contr3 : D.contr.Idx ≃ Fin n0 × Fin n1 × Fin n2 where
  toFun q := ((q ⟨0, by omega⟩).cast h0, (q ⟨1, by omega⟩).cast h1, (q ⟨2, by omega⟩).cast h2)
  invFun p := fun a =>
    if ha : a.val = 0 then p.1.cast (h0.symm.trans (congrArg D.contr.size (Fin.ext ha.symm)))
    else if hb : a.val = 1 then p.2.1.cast (h1.symm.trans (congrArg D.contr.size (Fin.ext hb.symm)))
    else p.2.2.cast (h2.symm.trans (congrArg D.contr.size (Fin.ext (by have := a.isLt; show 2 = a.val; omega))))
  left_inv q := by
    have p0 : 0 < D.contr.rank := by omega
    have p1 : 1 < D.contr.rank := by omega
    have p2 : 2 < D.contr.rank := by omega
    funext a
    by_cases ha : a.val = 0
    · obtain rfl : a = ⟨0, p0⟩ := Fin.ext ha
      simp
    · by_cases hb : a.val = 1
      · obtain rfl : a = ⟨1, p1⟩ := Fin.ext hb
        simp
      · obtain rfl : a = ⟨2, p2⟩ := Fin.ext (by have := a.isLt; show a.val = 2; omega)
        simp
  right_inv p := by
    refine Prod.ext (Fin.ext ?_) (Prod.ext (Fin.ext ?_) (Fin.ext ?_)) <;> simp

theorem contr3_0 (p : Fin n0 × Fin n1 × Fin n2) : (((contr3 D n0 n1 n2 hr h0 h1 h2).symm p) ⟨0, by omega⟩ : ℕ) = p.1.val := by
  simp [contr3]
theorem contr3_1 (p : Fin n0 × Fin n1 × Fin n2) : (((contr3 D n0 n1 n2 hr h0 h1 h2).symm p) ⟨1, by omega⟩ : ℕ) = p.2.1.val := by
  simp [contr3]
theorem contr3_2 (p : Fin n0 × Fin n1 × Fin n2) : (((contr3 D n0 n1 n2 hr h0 h1 h2).symm p) ⟨2, by omega⟩ : ℕ) = p.2.2.val := by
  simp [contr3]
end

/-! ## The reference's value -/

section
open Cert.Reference10Ideal Cert.Reference10Ideal.Read

variable (x0 : (⟨S8192x5632, .f32⟩ : BufTy).Contents (Elt Ideal)) (x1 : (⟨S8192x2048, .f32⟩ : BufTy).Contents (Elt Ideal))

theorem v5_at (r : Fin 8192) (k : Fin 1024) : val_main_v5 (F := Ideal) x0 (ix3 0 r k) = x0 (ix2 r (zu k)) := by
  rw [val_main_v5_apply, val_main_v0_apply]
  congr 1; funext a
  match a with
  | ⟨0, _⟩ => rfl
  | ⟨1, _⟩ => rfl
theorem v6_at (r : Fin 8192) (k : Fin 1024) : val_main_v6 (F := Ideal) x0 (ix3 0 r k) = x0 (ix2 r (zv k)) := by
  rw [val_main_v6_apply, val_main_v0_apply]
  congr 1; funext a
  match a with
  | ⟨0, _⟩ => rfl
  | ⟨1, _⟩ => rfl
theorem v7_at (r : Fin 8192) (k : Fin 1024) : val_main_v7 (F := Ideal) x0 (ix3 0 r k) = x0 (ix2 r (gb k)) := by
  rw [val_main_v7_apply, val_main_v0_apply]
  congr 1; funext a
  match a with
  | ⟨0, _⟩ => rfl
  | ⟨1, _⟩ => rfl
theorem v38_at (r : Fin 8192) (k : Fin 1024) : val_main_v38 (F := Ideal) x1 (ix3 0 r k) = x1 (ix2 r (dm k)) := by
  rw [val_main_v38_apply, val_main_v37_apply]
  congr 1; funext a
  match a with
  | ⟨0, _⟩ => rfl
  | ⟨1, _⟩ => rfl

theorem v14_at (r : Fin 8192) (k : Fin 1024) : val_main_v14 (F := Ideal) x0 (ix3 0 r k) = gel (x0 (ix2 r (zu k))) := by
  rw [val_main_v14_apply, val_main_v9_apply, val_main_v8_apply, val_main_cst_apply, val_main_v13_apply, val_main_v12_apply,
    val_main_v10_apply, val_main_v11_apply, val_main_cst_0_apply, v5_at]
  exact gel_eq _
theorem v22_at (r : Fin 8192) (k : Fin 1024) : val_main_v22 (F := Ideal) x0 (ix3 0 r k) = gel (x0 (ix2 r (zv k))) := by
  rw [val_main_v22_apply, val_main_v17_apply, val_main_v16_apply, val_main_cst_1_apply, val_main_v21_apply, val_main_v20_apply,
    val_main_v18_apply, val_main_v19_apply, val_main_cst_2_apply, v6_at]
  exact gel_eq _

theorem v39_at (r : Fin 8192) (k : Fin 1024) :
    val_main_v39 (F := Ideal) x0 x1 (ix3 0 r k) * gel (x0 (ix2 r (zu k))) = dmx (x1 (ix2 r (dm k))) (x0 (ix2 r (gb k))) (x0 (ix2 r (zu k))) := by
  rw [val_main_v39_apply, v38_at, val_main_v35_apply, v7_at, val_main_call1_v5_apply, val_main_call1_v4_apply, val_main_call1_cst_0_apply,
    val_main_call1_v3_apply, val_main_call1_v2_apply, val_main_call1_cst_apply, val_main_call1_v1_apply, val_main_call1_v0_apply, v7_at]
  unfold dmx
  rw [show Ideal.ofBits .f32 0x00000000#32 - x0 (ix2 r (gb k)) = -x0 (ix2 r (gb k)) by rw [Ideal.ofBits_zero_f32, zero_sub]]
  rfl

theorem idx15 (r : Fin 8192) (h : Fin 16) (q : Fin 64) : idx_main_v15 (ix4 0 r h q) = ix3 0 r (lane h q) := by
  funext a; apply Fin.ext
  match a with
  | ⟨0, _⟩ => rfl
  | ⟨1, _⟩ => show (((0 * 8192 + r.val) * 16 + h.val) * 64 + q.val) / 1024 % 8192 = r.val; omega
  | ⟨2, _⟩ => show (((0 * 8192 + r.val) * 16 + h.val) * 64 + q.val) % 1024 = 64 * h.val + q.val; omega

theorem v41_at (r : Fin 8192) (h : Fin 16) (q : Fin 64) :
    val_main_v41 (F := Ideal) x0 x1 (ix4 0 r h q) = dmx (x1 (ix2 r (dm (lane h q)))) (x0 (ix2 r (gb (lane h q)))) (x0 (ix2 r (zu (lane h q)))) := by
  rw [val_main_v41_apply, val_main_v15_apply, val_main_v40_apply, idx15, show idx_main_v40 (ix4 0 r h q) = ix3 0 r (lane h q) from idx15 r h q,
    v14_at, ← v39_at]
  exact mul_comm _ _

theorem v23_at (r : Fin 8192) (h : Fin 16) (q : Fin 64) : val_main_v23 (F := Ideal) x0 (ix4 0 r h q) = gel (x0 (ix2 r (zv (lane h q)))) := by
  rw [val_main_v23_apply, show idx_main_v23 (ix4 0 r h q) = ix3 0 r (lane h q) from idx15 r h q, v22_at]

theorem idx24 (n : Fin 64) (b : Fin 128) (h : Fin 16) (q : Fin 64) (i : S1x64x128x16x64.Idx) (e0 : (i 0).val = 0) (e1 : (i 1).val = n.val)
    (e2 : (i 2).val = b.val) (e3 : (i 3).val = h.val) (e4 : (i 4).val = q.val) : idx_main_v24 i = ix4 0 (tok n b) h q := by
  funext a; apply Fin.ext
  match a with
  | ⟨0, _⟩ => rfl
  | ⟨1, _⟩ =>
    show (((((i 0).val * 64 + (i 1).val) * 128 + (i 2).val) * 16 + (i 3).val) * 64 + (i 4).val) / 1024 % 8192 = 128 * n.val + b.val
    rw [e0, e1, e2, e3, e4]; omega
  | ⟨2, _⟩ =>
    show (((((i 0).val * 64 + (i 1).val) * 128 + (i 2).val) * 16 + (i 3).val) * 64 + (i 4).val) / 64 % 16 = h.val
    rw [e0, e1, e2, e3, e4]; omega
  | ⟨3, _⟩ =>
    show (((((i 0).val * 64 + (i 1).val) * 128 + (i 2).val) * 16 + (i 3).val) * 64 + (i 4).val) % 64 = q.val
    rw [e0, e1, e2, e3, e4]; omega

/-- The product that sums the batch, the chunks and the lanes. -/
abbrev D44 : DotDims S16x1x64x64x128 S1x64x128x16x64 S16x128x128 := dot_S16x1x64x64x128_S1x64x128x16x64_S16x128x128_123_014_4_2_0_3

theorem lhs0 (i : S16x128x128.Idx) (k : D44.contr.Idx) : (D44.lhsIdx i k 0).val = (i 0).val := by
  unfold DotDims.lhsIdx
  rw [dif_pos (show (0 : Fin 5) ∈ D44.lhsBatch by decide)]
  rfl
theorem lhs2 (i : S16x128x128.Idx) (k : D44.contr.Idx) : (D44.lhsIdx i k 2).val = (k ⟨1, by decide⟩).val := by
  unfold DotDims.lhsIdx
  rw [dif_neg (show ¬(2 : Fin 5) ∈ D44.lhsBatch by decide), dif_neg (show ¬(2 : Fin 5) ∈ D44.lhsNonContracting by decide)]
  rfl
theorem lhs3 (i : S16x128x128.Idx) (k : D44.contr.Idx) : (D44.lhsIdx i k 3).val = (k ⟨2, by decide⟩).val := by
  unfold DotDims.lhsIdx
  rw [dif_neg (show ¬(3 : Fin 5) ∈ D44.lhsBatch by decide), dif_neg (show ¬(3 : Fin 5) ∈ D44.lhsNonContracting by decide)]
  rfl
theorem lhs4 (i : S16x128x128.Idx) (k : D44.contr.Idx) : (D44.lhsIdx i k 4).val = (i 1).val := by
  unfold DotDims.lhsIdx
  rw [dif_neg (show ¬(4 : Fin 5) ∈ D44.lhsBatch by decide), dif_pos (show (4 : Fin 5) ∈ D44.lhsNonContracting by decide)]
  rfl
theorem rhs1 (i : S16x128x128.Idx) (k : D44.contr.Idx) : (D44.rhsIdx i k 1).val = (k ⟨1, by decide⟩).val := by
  unfold DotDims.rhsIdx
  rw [dif_neg (show ¬(1 : Fin 5) ∈ D44.rhsBatch by decide), dif_neg (show ¬(1 : Fin 5) ∈ D44.rhsNonContracting by decide)]
  rfl
theorem rhs2 (i : S16x128x128.Idx) (k : D44.contr.Idx) : (D44.rhsIdx i k 2).val = (i 2).val := by
  unfold DotDims.rhsIdx
  rw [dif_neg (show ¬(2 : Fin 5) ∈ D44.rhsBatch by decide), dif_pos (show (2 : Fin 5) ∈ D44.rhsNonContracting by decide)]
  rfl
theorem rhs3 (i : S16x128x128.Idx) (k : D44.contr.Idx) : (D44.rhsIdx i k 3).val = (i 0).val := by
  unfold DotDims.rhsIdx
  rw [dif_pos (show (3 : Fin 5) ∈ D44.rhsBatch by decide)]
  rfl
theorem rhs4 (i : S16x128x128.Idx) (k : D44.contr.Idx) : (D44.rhsIdx i k 4).val = (k ⟨2, by decide⟩).val := by
  unfold DotDims.rhsIdx
  rw [dif_neg (show ¬(4 : Fin 5) ∈ D44.rhsBatch by decide), dif_neg (show ¬(4 : Fin 5) ∈ D44.rhsNonContracting by decide)]
  rfl

theorem v44_at (h : Fin 16) (a b : Fin 128) :
    val_main_v44 (F := Ideal) x0 x1 (ix3 h a b) = ∑ n : Fin 64, part x0 x1 h a b n := by
  unfold val_main_v44
  simp only [Host.dotGeneral]
  rw [Ideal.dotGeneral_apply, ← Equiv.sum_comp (contr3 D44 1 64 64 rfl rfl rfl rfl).symm,
    Fintype.sum_prod_type, Fintype.sum_unique, Fintype.sum_prod_type]
  unfold part
  refine Finset.sum_congr rfl fun n _ => Finset.sum_congr rfl fun q _ => ?_
  have k1 := contr3_1 D44 1 64 64 rfl rfl rfl rfl (default, n, q)
  have k2 := contr3_2 D44 1 64 64 rfl rfl rfl rfl (default, n, q)
  generalize (contr3 D44 1 64 64 rfl rfl rfl rfl).symm (default, n, q) = k at k1 k2
  rw [val_main_v43_apply, val_main_v42_apply, val_main_v24_apply]
  have el : idx_main_v42 (idx_main_v43 (D44.lhsIdx (ix3 h a b) k)) = ix4 0 (tok n a) h q :=
    idx24 n a h q _ (Nat.lt_one_iff.mp (D44.lhsIdx (ix3 h a b) k 1).isLt) ((lhs2 (ix3 h a b) k).trans k1) (lhs4 (ix3 h a b) k) (lhs0 (ix3 h a b) k) ((lhs3 (ix3 h a b) k).trans k2)
  have er : idx_main_v24 (D44.rhsIdx (ix3 h a b) k) = ix4 0 (tok n b) h q :=
    idx24 n b h q _ (Nat.lt_one_iff.mp (D44.rhsIdx (ix3 h a b) k 0).isLt) ((rhs1 (ix3 h a b) k).trans k1) (rhs2 (ix3 h a b) k) (rhs3 (ix3 h a b) k) ((rhs4 (ix3 h a b) k).trans k2)
  exact congrArg₂ (· * ·) ((congrArg _ el).trans (v41_at x0 x1 _ h q)) ((congrArg _ er).trans (v23_at x0 _ h q))

theorem v45_at (h : Fin 16) (a b : Fin 128) : val_main_v45 (F := Ideal) x0 x1 (ix3 h a b) = gw x0 x1 (ix3 h a b) := by
  rw [val_main_v45_apply, val_main_v25_1_apply, val_main_call0_v4_apply, val_main_call0_v2_apply, val_main_call0_v0_apply, val_main_call0_v1_apply,
    val_main_call0_c_apply, val_main_call0_v3_apply, v44_at, val_main_call2_v0_apply, val_main_call2_cst_apply]
  show Scalar.select (IntOp.cmpi CmpIPredicate.sge (BitVec.ofNat 32 a.val + 0#32) (BitVec.ofNat 32 b.val)) _ (Ideal.ofBits .f32 0x00000000#32) = if b.val ≤ a.val then _ else 0
  rw [BitVec.add_zero, tri, Ideal.ofBits_zero_f32]
  by_cases hb : b.val ≤ a.val
  · rw [if_pos hb, if_pos hb]; rfl
  · rw [if_neg hb, if_neg hb]; rfl

/-- The reference's value. -/
theorem reference_eq : val_main_v45 (F := Ideal) x0 x1 = gw x0 x1 := by
  funext i
  idx_vars i
  exact v45_at x0 x1 _ _ _

end

end Cert.MixTerms

end
-- ==== Proof.MixPoint.lean ====
module

public import proofs.«01_k».proof.Proof.MixRef
public import proofs.«01_k».proof.Proof.Gen.Kernel10Ideal.Frame
public import Idealize.ShloMosaic.Lib.Pointwise
public import Idealize.ShloMosaic.Lib.Pipeline.ReadBack

/-!
What one point of the mixer's backward kernel leaves in the window of the gradient to the spatial gating weights. The
points of the chunks add a term for each of the 16 heads, two heads from one product; the last point keeps the lower
triangle.
-/

@[expose] public section

set_option maxRecDepth 16384

noncomputable section

namespace Cert.Kernel10Ideal.MixDw

open Idealize.ShloMosaic Idealize.ShloMosaic.TcCoe Idealize.ShloMosaic.Tactic
open Idealize.SL.Sem
open Cert.Kernel10Ideal Cert.Kernel10Ideal.Gen Cert.MixTerms

/-- The gelu of a block. -/
def gelV (z : FVec Ideal S128x128 .f32) : FVec Ideal S128x128 .f32 :=
  mulf z (mulf (broadcast S128x128 (FloatOps.ofBits FTy.f32 1056964608#32))
    (addf (broadcast S128x128 (FloatOps.ofBits FTy.f32 1065353216#32)) (erf (mulf z (broadcast S128x128 (FloatOps.ofBits FTy.f32 1060439283#32))))))

/-- The gradient to a block of mixed values. -/
def dmxV (d g z : FVec Ideal S128x128 .f32) : FVec Ideal S128x128 .f32 :=
  mulf (mulf d (mulf g (divf (broadcast S128x128 (FloatOps.ofBits FTy.f32 1065353216#32))
    (addf (broadcast S128x128 (FloatOps.ofBits FTy.f32 1065353216#32)) (exp (subf (broadcast S128x128 (FloatOps.ofBits FTy.f32 0#32)) g)))))) (gelV z)

theorem dmxV_apply (d g z : FVec Ideal S128x128 .f32) (r l : Fin 128) :
    dmxV d g z (ix2 r l) = dmx (d (ix2 r l)) (g (ix2 r l)) (z (ix2 r l)) := by
  pointwise [dmxV, gelV, dmx, gel]
  rfl

theorem gelV_apply (z : FVec Ideal S128x128 .f32) (r l : Fin 128) : gelV z (ix2 r l) = gel (z (ix2 r l)) := by
  pointwise [gelV, gel]
  rfl

theorem k0_pay1_apply (r l : Fin 128) : k0_pay1 (ix2 r l) = if l.val < 64 then 1#1 else 0#1 := by
  pointwise [k0_pay1]
  revert l; decide
theorem k0_pay2_apply (r l : Fin 128) : k0_pay2 (ix2 r l) = if l.val < 64 then 0#1 else 1#1 := by
  pointwise [k0_pay2]
  revert l; decide

/-- The mixed gradient's two halves, one above the other, times the block of the other factor. -/
def prodV (d g z v : FVec Ideal S128x128 .f32) : FVec Ideal S256x128 .f32 :=
  matmul dot_S256x128_S128x128_S256x128_1_1_0_0_n_n none
    (concatenate S256x128 0
      [⟨S128x128, truncf .bf16 (select k0_pay1 (dmxV d g z) (broadcast S128x128 (FloatOps.ofBits FTy.f32 0#32))) bitsLt_bf16_f32⟩,
       ⟨S128x128, truncf .bf16 (select k0_pay2 (dmxV d g z) (broadcast S128x128 (FloatOps.ofBits FTy.f32 0#32))) bitsLt_bf16_f32⟩]
      concatenates_S128x128_S128x128_S256x128_d0)
    (truncf .bf16 (gelV v) bitsLt_bf16_f32) (constant S256x128 FTy.f32 0#32)

/-- The lanes of the even head (0) or the odd head (1) of a pair. -/
theorem half0 (f : Fin 128 → EReal) (g : Fin 128 → EReal) :
    ∑ l : Fin 128, Scalar.select (if l.val < 64 then (1#1 : BitVec 1) else 0#1) (f l) 0 * g l
      = ∑ q : Fin 64, f ⟨q.val, by omega⟩ * g ⟨q.val, by omega⟩ := by
  refine (Fin.sum_univ_add (a := 64) (b := 64) (fun l : Fin (64 + 64) => Scalar.select (if l.val < 64 then (1#1 : BitVec 1) else 0#1) (f l) 0 * g l)).trans ?_
  rw [show (∑ q : Fin 64, (fun l : Fin (64 + 64) => Scalar.select (if l.val < 64 then (1#1 : BitVec 1) else 0#1) (f l) 0 * g l) (Fin.natAdd 64 q)) = 0 from
    Finset.sum_eq_zero fun q _ => by
      show Scalar.select (if 64 + q.val < 64 then (1#1 : BitVec 1) else 0#1) _ _ * _ = _
      rw [if_neg (by omega)]
      show (0 : EReal) * _ = 0
      rw [zero_mul], add_zero]
  refine Finset.sum_congr rfl fun q _ => ?_
  show Scalar.select (if q.val < 64 then (1#1 : BitVec 1) else 0#1) _ _ * _ = _
  rw [if_pos q.isLt]
  rfl

theorem half1 (f : Fin 128 → EReal) (g : Fin 128 → EReal) :
    ∑ l : Fin 128, Scalar.select (if l.val < 64 then (0#1 : BitVec 1) else 1#1) (f l) 0 * g l
      = ∑ q : Fin 64, f ⟨64 + q.val, by omega⟩ * g ⟨64 + q.val, by omega⟩ := by
  refine (Fin.sum_univ_add (a := 64) (b := 64) (fun l : Fin (64 + 64) => Scalar.select (if l.val < 64 then (0#1 : BitVec 1) else 1#1) (f l) 0 * g l)).trans ?_
  rw [show (∑ q : Fin 64, (fun l : Fin (64 + 64) => Scalar.select (if l.val < 64 then (0#1 : BitVec 1) else 1#1) (f l) 0 * g l) (Fin.castAdd 64 q)) = 0 from
    Finset.sum_eq_zero fun q _ => by
      show Scalar.select (if q.val < 64 then (0#1 : BitVec 1) else 1#1) _ _ * _ = _
      rw [if_pos q.isLt]
      show (0 : EReal) * _ = 0
      rw [zero_mul], zero_add]
  refine Finset.sum_congr rfl fun q _ => ?_
  show Scalar.select (if 64 + q.val < 64 then (0#1 : BitVec 1) else 1#1) _ _ * _ = _
  rw [if_neg (by omega)]
  rfl

theorem prodV_even (d g z v : FVec Ideal S128x128 .f32) (t s : Fin 128) :
    prodV d g z v (ix2 ⟨t.val, by omega⟩ s) = ∑ q : Fin 64, dmxV d g z (ix2 t ⟨q.val, by omega⟩) * gelV v (ix2 s ⟨q.val, by omega⟩) := by
  pointwise [prodV]
  simp only [t.isLt, dite_true, k0_pay1_apply, Fin.eta]
  refine Eq.trans (Finset.sum_congr rfl fun l _ => ?_) (half0 (fun l => dmxV d g z (ix2 t l)) (fun l => gelV v (ix2 s l)))
  rcases lt_or_ge l.val 64 with h | h <;> simp [h, Scalar.select, not_lt.mpr]

theorem prodV_odd (d g z v : FVec Ideal S128x128 .f32) (t s : Fin 128) :
    prodV d g z v (ix2 ⟨128 + t.val, by omega⟩ s) = ∑ q : Fin 64, dmxV d g z (ix2 t ⟨64 + q.val, by omega⟩) * gelV v (ix2 s ⟨64 + q.val, by omega⟩) := by
  pointwise [prodV]
  simp only [show ¬ (128 + t.val < 128) by omega, dite_false, k0_pay2_apply, Nat.add_sub_cancel_left, Fin.eta]
  refine Eq.trans (Finset.sum_congr rfl fun l _ => ?_) (half1 (fun l => dmxV d g z (ix2 t l)) (fun l => gelV v (ix2 s l)))
  rcases lt_or_ge l.val 64 with h | h <;> simp [h, Scalar.select, not_lt.mpr]

/-- What is added to head `2 j` (`o = 0`) or `2 j + 1` (`o = 1`) of the sum. -/
def addE (p : Vec Ideal S1x128x128 .f32) (w : FVec Ideal S256x128 .f32) : FVec Ideal S1x128x128 .f32 :=
  shapeCast S1x128x128 (addf (shapeCast S128x128 p shapeCasts_S1x128x128_S128x128) (extractStridedSlice S128x128 ![0, 0] w slices_S256x128_o0_0_S128x128)) shapeCasts_S128x128_S1x128x128
def addO (p : Vec Ideal S1x128x128 .f32) (w : FVec Ideal S256x128 .f32) : FVec Ideal S1x128x128 .f32 :=
  shapeCast S1x128x128 (addf (shapeCast S128x128 p shapeCasts_S1x128x128_S128x128) (extractStridedSlice S128x128 ![128, 0] w slices_S256x128_o128_0_S128x128)) shapeCasts_S128x128_S1x128x128

theorem addE_apply (p : Vec Ideal S1x128x128 .f32) (w : FVec Ideal S256x128 .f32) (t s : Fin 128) :
    addE p w (ix3 0 t s) = p (ix3 0 t s) + w (ix2 ⟨t.val, by omega⟩ s) := by
  pointwise [addE]
theorem addO_apply (p : Vec Ideal S1x128x128 .f32) (w : FVec Ideal S256x128 .f32) (t s : Fin 128) :
    addO p w (ix3 0 t s) = p (ix3 0 t s) + w (ix2 ⟨128 + t.val, by omega⟩ s) := by
  pointwise [addO]

/-- One chunk's term of the sum. -/
def term (x2 : Vec Ideal S128x5632 .f32) (x4 : Vec Ideal S128x2048 .f32) (h : Fin 16) (t s : Fin 128) : EReal :=
  ∑ q : Fin 64, dmx (x4 (ix2 t ⟨1024 + 64 * h.val + q.val, by omega⟩)) (x2 (ix2 t ⟨4608 + 64 * h.val + q.val, by omega⟩)) (x2 (ix2 t ⟨2560 + 64 * h.val + q.val, by omega⟩))
    * gel (x2 (ix2 s ⟨3584 + 64 * h.val + q.val, by omega⟩))

/-- The sum after a chunk. -/
def G13 (x2 : Vec Ideal S128x5632 .f32) (x4 : Vec Ideal S128x2048 .f32) (X : Vec Ideal S16x128x128 .f32) : Vec Ideal S16x128x128 .f32 :=
  fun i => X i + term x2 x4 (i 0) (i 1) (i 2)

theorem ldc {n : ℕ} (x : Vec Ideal ⟨2, ![128, n]⟩ .f32) (off : ℕ) (i : ∀ a, (![0, off] : Fin 2 → ℕ) a + S128x128.size a ≤ (⟨2, ![128, n]⟩ : Shape).size a)
    (r l : Fin 128) (p : Fin n) (hp : p.val = off + l.val) :
    View.ld x (Rect.unit (s := ⟨2, ![128, n]⟩) ![0, off] S128x128.size i) (ix2 r l) = x (ix2 r p) := by
  show x _ = x _
  congr 1; funext a; apply Fin.ext
  match a with
  | ⟨0, _⟩ => show 0 + 1 * r.val = r.val; omega
  | ⟨1, _⟩ => show off + 1 * l.val = p.val; omega

theorem ldh (X : Vec Ideal S16x128x128 .f32) (h : ℕ) (hh : h < 16) (i : ∀ a, (![h, 0, 0] : Fin 3 → ℕ) a + S1x128x128.size a ≤ S16x128x128.size a) (t s : Fin 128) :
    (Rect.unit (s := S16x128x128) ![h, 0, 0] S1x128x128.size i).emb (ix3 0 t s) = ix3 ⟨h, hh⟩ t s := by
  funext a; apply Fin.ext
  match a with
  | ⟨0, _⟩ => show h + 1 * 0 = h; omega
  | ⟨1, _⟩ => show 0 + 1 * t.val = t.val; omega
  | ⟨2, _⟩ => show 0 + 1 * s.val = s.val; omega

/-- What a chunk writes in an even head and in an odd head, and what the last point writes in a head. -/
theorem pieceE (x2 : Vec Ideal S128x5632 .f32) (x4 : Vec Ideal S128x2048 .f32) (X : Vec Ideal S16x128x128 .f32) (h a b c d : ℕ)
    (hh : h % 2 = 0 ∧ h < 16 ∧ a = 1024 + 64 * h ∧ b = 4608 + 64 * h ∧ c = 2560 + 64 * h ∧ d = 3584 + 64 * h)
    (i0 : ∀ a, (![h, 0, 0] : Fin 3 → ℕ) a + S1x128x128.size a ≤ S16x128x128.size a)
    (i1 : ∀ k, (![0, a] : Fin 2 → ℕ) k + S128x128.size k ≤ S128x2048.size k) (i2 : ∀ a, (![0, b] : Fin 2 → ℕ) a + S128x128.size a ≤ S128x5632.size a)
    (i3 : ∀ a, (![0, c] : Fin 2 → ℕ) a + S128x128.size a ≤ S128x5632.size a) (i4 : ∀ a, (![0, d] : Fin 2 → ℕ) a + S128x128.size a ≤ S128x5632.size a)
    (x : S1x128x128.Idx) :
    addE (View.ld X (Rect.unit (s := S16x128x128) ![h, 0, 0] S1x128x128.size i0))
      (prodV (View.ld x4 (Rect.unit (s := S128x2048) ![0, a] S128x128.size i1)) (View.ld x2 (Rect.unit (s := S128x5632) ![0, b] S128x128.size i2))
        (View.ld x2 (Rect.unit (s := S128x5632) ![0, c] S128x128.size i3)) (View.ld x2 (Rect.unit (s := S128x5632) ![0, d] S128x128.size i4))) x
      = G13 x2 x4 X ((Rect.unit (s := S16x128x128) ![h, 0, 0] S1x128x128.size i0).emb x) := by
  obtain ⟨z, t, s, rfl⟩ : ∃ (z : Fin 1) (t s : Fin 128), x = ix3 z t s := ⟨x 0, x 1, x 2, eq_ix3 x⟩
  obtain rfl : z = 0 := Subsingleton.elim _ _
  rw [addE_apply, prodV_even, ldh X h (by omega) i0]
  show X ((Rect.unit (s := S16x128x128) ![h, 0, 0] S1x128x128.size i0).emb (ix3 0 t s)) + _ = X _ + term x2 x4 ⟨h, _⟩ t s
  rw [ldh X h (by omega) i0]
  congr 1
  unfold term
  refine Finset.sum_congr rfl fun q _ => ?_
  have hq := q.isLt
  rw [dmxV_apply, gelV_apply, ldc x4 a i1 t _ ⟨1024 + 64 * h + q.val, by omega⟩ (by dsimp only; omega),
    ldc x2 b i2 t _ ⟨4608 + 64 * h + q.val, by omega⟩ (by dsimp only; omega), ldc x2 c i3 t _ ⟨2560 + 64 * h + q.val, by omega⟩ (by dsimp only; omega),
    ldc x2 d i4 s _ ⟨3584 + 64 * h + q.val, by omega⟩ (by dsimp only; omega)]

theorem pieceO (x2 : Vec Ideal S128x5632 .f32) (x4 : Vec Ideal S128x2048 .f32) (X : Vec Ideal S16x128x128 .f32) (h a b c d : ℕ)
    (hh : h % 2 = 1 ∧ h < 16 ∧ a + 64 = 1024 + 64 * h ∧ b + 64 = 4608 + 64 * h ∧ c + 64 = 2560 + 64 * h ∧ d + 64 = 3584 + 64 * h)
    (i0 : ∀ a, (![h, 0, 0] : Fin 3 → ℕ) a + S1x128x128.size a ≤ S16x128x128.size a)
    (i1 : ∀ k, (![0, a] : Fin 2 → ℕ) k + S128x128.size k ≤ S128x2048.size k) (i2 : ∀ a, (![0, b] : Fin 2 → ℕ) a + S128x128.size a ≤ S128x5632.size a)
    (i3 : ∀ a, (![0, c] : Fin 2 → ℕ) a + S128x128.size a ≤ S128x5632.size a) (i4 : ∀ a, (![0, d] : Fin 2 → ℕ) a + S128x128.size a ≤ S128x5632.size a)
    (x : S1x128x128.Idx) :
    addO (View.ld X (Rect.unit (s := S16x128x128) ![h, 0, 0] S1x128x128.size i0))
      (prodV (View.ld x4 (Rect.unit (s := S128x2048) ![0, a] S128x128.size i1)) (View.ld x2 (Rect.unit (s := S128x5632) ![0, b] S128x128.size i2))
        (View.ld x2 (Rect.unit (s := S128x5632) ![0, c] S128x128.size i3)) (View.ld x2 (Rect.unit (s := S128x5632) ![0, d] S128x128.size i4))) x
      = G13 x2 x4 X ((Rect.unit (s := S16x128x128) ![h, 0, 0] S1x128x128.size i0).emb x) := by
  obtain ⟨z, t, s, rfl⟩ : ∃ (z : Fin 1) (t s : Fin 128), x = ix3 z t s := ⟨x 0, x 1, x 2, eq_ix3 x⟩
  obtain rfl : z = 0 := Subsingleton.elim _ _
  rw [addO_apply, prodV_odd, ldh X h (by omega) i0]
  show X ((Rect.unit (s := S16x128x128) ![h, 0, 0] S1x128x128.size i0).emb (ix3 0 t s)) + _ = X _ + term x2 x4 ⟨h, _⟩ t s
  rw [ldh X h (by omega) i0]
  congr 1
  unfold term
  refine Finset.sum_congr rfl fun q _ => ?_
  have hq := q.isLt
  rw [dmxV_apply, gelV_apply, ldc x4 a i1 t _ ⟨1024 + 64 * h + q.val, by omega⟩ (by dsimp only; omega),
    ldc x2 b i2 t _ ⟨4608 + 64 * h + q.val, by omega⟩ (by dsimp only; omega), ldc x2 c i3 t _ ⟨2560 + 64 * h + q.val, by omega⟩ (by dsimp only; omega),
    ldc x2 d i4 s _ ⟨3584 + 64 * h + q.val, by omega⟩ (by dsimp only; omega)]

/-- The last step keeps the lower triangle. -/
def keep (p : Vec Ideal S1x128x128 .f32) : FVec Ideal S1x128x128 .f32 :=
  shapeCast S1x128x128 (select k0_pay465 (shapeCast S128x128 p shapeCasts_S1x128x128_S128x128) (broadcast S128x128 (FloatOps.ofBits FTy.f32 0#32))) shapeCasts_S128x128_S1x128x128

/-- The sum after the last point. -/
def GD (X : Vec Ideal S16x128x128 .f32) : Vec Ideal S16x128x128 .f32 :=
  fun i => if (i 2).val ≤ (i 1).val then X i else 0

theorem keep_apply (p : Vec Ideal S1x128x128 .f32) (t s : Fin 128) :
    keep p (ix3 0 t s) = if s.val ≤ t.val then p (ix3 0 t s) else 0 := by
  pointwise [keep, k0_pay465]
  rw [tri]
  by_cases h : s.val ≤ t.val
  · rw [if_pos h, if_pos h]; rfl
  · rw [if_neg h, if_neg h]; rfl

/-- A list of heads, one after the other. -/
theorem canon_head (G : S16x128x128.Idx → EReal) (h : ℕ) (i : ∀ a, (![h, 0, 0] : Fin 3 → ℕ) a + S1x128x128.size a ≤ S16x128x128.size a)
    (w : S1x128x128.Idx → Elt Ideal .f32) (L : List (View.Piece (Elt Ideal) S16x128x128 .f32)) (y : S16x128x128.Idx)
    (hw : ∀ x, w x = G ((Rect.unit (s := S16x128x128) ![h, 0, 0] S1x128x128.size i).emb x))
    (hr : (y 0).val ≠ h → View.canon L y = G y) :
    View.canon (Val := Elt Ideal) (⟨Rect.unit (s := S16x128x128) ![h, 0, 0] S1x128x128.size i, w⟩ :: L) y = G y := by
  obtain ⟨a, b, d, rfl⟩ : ∃ (a : Fin 16) (b d : Fin 128), y = ix3 a b d := ⟨y 0, y 1, y 2, eq_ix3 y⟩
  by_cases hm : a.val = h
  · subst hm
    have e : (Rect.unit (s := S16x128x128) ![a.val, 0, 0] S1x128x128.size i).emb (ix3 0 b d) = ix3 a b d := ldh (fun _ => 0) a.val a.isLt i b d
    rw [← e, View.canon_cons_emb]
    exact hw _
  · rw [View.canon_cons_of_not_mem _ _ (fun hm' => ?_)]
    · exact hr hm
    · obtain ⟨x, hx⟩ := LoadRect.exists_idx_of_mem _ hm'
      have h0 : h + 1 * (x 0).val = a.val := congrArg Fin.val (congrFun hx 0)
      have h1 : (x 0).val < 1 := (x 0).isLt
      exact hm (by omega)

theorem pieceD (X : Vec Ideal S16x128x128 .f32) (h : ℕ) (hh : h < 16) (i0 : ∀ a, (![h, 0, 0] : Fin 3 → ℕ) a + S1x128x128.size a ≤ S16x128x128.size a)
    (x : S1x128x128.Idx) :
    keep (View.ld X (Rect.unit (s := S16x128x128) ![h, 0, 0] S1x128x128.size i0)) x
      = GD X ((Rect.unit (s := S16x128x128) ![h, 0, 0] S1x128x128.size i0).emb x) := by
  obtain ⟨z, t, s, rfl⟩ : ∃ (z : Fin 1) (t s : Fin 128), x = ix3 z t s := ⟨x 0, x 1, x 2, eq_ix3 x⟩
  obtain rfl : z = 0 := Subsingleton.elim _ _
  rw [keep_apply]
  show (if s.val ≤ t.val then X ((Rect.unit (s := S16x128x128) ![h, 0, 0] S1x128x128.size i0).emb (ix3 0 t s)) else 0) = _
  rw [ldh X h hh i0]
  rfl

section
variable (c : Dev nD) (i : grid0.Coords) (arg1 : Memref sig .tc .smem S16 .f32) (harg1 : arg1.IsWhole) (arg2 : Memref sig .tc .smem S16 .f32)
  (harg2 : arg2.IsWhole) (arg3 : Memref sig .tc .vmem S128x5632 .f32) (harg3 : arg3.IsWhole) (arg4 : Memref sig .tc .vmem S128x512 .f32)
  (harg4 : arg4.IsWhole) (arg5 : Memref sig .tc .vmem S128x2048 .f32) (harg5 : arg5.IsWhole) (arg6 : Memref sig .tc .vmem S1x128 .f32)
  (harg6 : arg6.IsWhole) (arg7 : Memref sig .tc .vmem S1x128 .f32) (harg7 : arg7.IsWhole) (arg8 : Memref sig .tc .vmem S16x128x128 .f32)
  (harg8 : arg8.IsWhole) (arg9 : Memref sig .tc .vmem S128x1024 .f32) (harg9 : arg9.IsWhole) (arg10 : Memref sig .tc .vmem S128x5632 .bf16)
  (harg10 : arg10.IsWhole) (arg11 : Memref sig .tc .vmem S1x128 .f32) (harg11 : arg11.IsWhole) (arg12 : Memref sig .tc .vmem S1x128 .f32)
  (harg12 : arg12.IsWhole) (arg13 : Memref sig .tc .vmem S1x128 .f32) (harg13 : arg13.IsWhole) (arg14 : Memref sig .tc .vmem S16x128x128 .f32)
  (harg14 : arg14.IsWhole) (arg15 : Memref sig .tc .vmem S16x128 .f32) (harg15 : arg15.IsWhole) (arg16 : Memref sig .tc .vmem S128x5632 .f32)
  (harg16 : arg16.IsWhole) (arg17 : Memref sig .tc .vmem S128x128 .f32) (harg17 : arg17.IsWhole) (arg18 : Memref sig .tc .vmem S128x128 .f32)
  (harg18 : arg18.IsWhole) (arg19 : Memref sig .tc .vmem S128x128 .f32) (harg19 : arg19.IsWhole) (arg20 : Memref sig .tc .vmem S128x1024 .f32)
  (harg20 : arg20.IsWhole) (arg21 : Memref sig .tc .vmem S2048x128 .bf16) (harg21 : arg21.IsWhole) (arg22 : Memref sig .tc .vmem S8x128x256 .bf16)
  (harg22 : arg22.IsWhole) (arg23 : Memref sig .tc .vmem S2048x256 .f32) (harg23 : arg23.IsWhole) (x0 : Vec Ideal S16 .f32) (x1 : Vec Ideal S16 .f32)
  (x2 : Vec Ideal S128x5632 .f32) (x3 : Vec Ideal S128x512 .f32) (x4 : Vec Ideal S128x2048 .f32) (x5 : Vec Ideal S1x128 .f32)
  (x6 : Vec Ideal S1x128 .f32) (x7 : Vec Ideal S16x128x128 .f32) (x8 : Vec Ideal S128x1024 .f32) (xo13 : Vec Ideal S16x128x128 .f32)
  (xs0 : Vec Ideal S128x5632 .f32) (xs1 : Vec Ideal S128x128 .f32) (xs2 : Vec Ideal S128x128 .f32) (xs3 : Vec Ideal S128x128 .f32)
  (xs4 : Vec Ideal S128x1024 .f32) (xs5 : Vec Ideal S2048x128 .bf16) (xs6 : Vec Ideal S8x128x256 .bf16) (xs7 : Vec Ideal S2048x256 .f32)

set_option maxHeartbeats 4000000

theorem out_D (hc0 : ¬cond0_0 i) (hc1 : ¬cond0_1 i) (hc2 : ¬cond0_2 i) (hc3 : cond0_3 i) :
    out0_D_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 xo13 xs0 xs1 xs2 xs3 xs4 xs5 xs6 xs7
      = GD xo13 := by
  funext y
  unfold out0_D_13
  rw [View.read_writes_eq_canon _ _ _ (cover0_D_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 xo13 xs0 xs1 xs2 xs3 xs4 xs5 xs6 xs7)]
  unfold kernelRun0_D
  dsimp only
  sl_unfold_words
  have hy : (y 0).val < 16 := (y 0).isLt
  refine canon_head _ 15 _ _ _ y ?o15 fun n15 => canon_head _ 14 _ _ _ y ?e14 fun n14 => canon_head _ 13 _ _ _ y ?o13 fun n13 => canon_head _ 12 _ _ _ y ?e12 fun n12 =>
    canon_head _ 11 _ _ _ y ?o11 fun n11 => canon_head _ 10 _ _ _ y ?e10 fun n10 => canon_head _ 9 _ _ _ y ?o9 fun n9 => canon_head _ 8 _ _ _ y ?e8 fun n8 =>
    canon_head _ 7 _ _ _ y ?o7 fun n7 => canon_head _ 6 _ _ _ y ?e6 fun n6 => canon_head _ 5 _ _ _ y ?o5 fun n5 => canon_head _ 4 _ _ _ y ?e4 fun n4 =>
    canon_head _ 3 _ _ _ y ?o3 fun n3 => canon_head _ 2 _ _ _ y ?e2 fun n2 => canon_head _ 1 _ _ _ y ?o1 fun n1 => canon_head _ 0 _ _ _ y ?e0 fun n0 => ?z
  case z => exfalso; omega
  all_goals
    intro x
    simp only [View.readAt_eq_ld, harg14.read_unread]
    exact pieceD xo13 _ (by decide) _ x

theorem out_C (hc0 : ¬cond0_0 i) (hc1 : ¬cond0_1 i) (hc2 : cond0_2 i) (hc3 : ¬cond0_3 i) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 xo13 xs0 xs1 xs2 xs3 xs4 xs5 xs6 xs7
      = G13 x2 x4 xo13 := by
  funext y
  unfold out0_C_13
  rw [View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 xo13 xs0 xs1 xs2 xs3 xs4 xs5 xs6 xs7)]
  unfold kernelRun0_C
  dsimp only
  sl_unfold_words
  have hy : (y 0).val < 16 := (y 0).isLt
  refine canon_head _ 15 _ _ _ y ?o15 fun n15 => canon_head _ 14 _ _ _ y ?e14 fun n14 => canon_head _ 13 _ _ _ y ?o13 fun n13 => canon_head _ 12 _ _ _ y ?e12 fun n12 =>
    canon_head _ 11 _ _ _ y ?o11 fun n11 => canon_head _ 10 _ _ _ y ?e10 fun n10 => canon_head _ 9 _ _ _ y ?o9 fun n9 => canon_head _ 8 _ _ _ y ?e8 fun n8 =>
    canon_head _ 7 _ _ _ y ?o7 fun n7 => canon_head _ 6 _ _ _ y ?e6 fun n6 => canon_head _ 5 _ _ _ y ?o5 fun n5 => canon_head _ 4 _ _ _ y ?e4 fun n4 =>
    canon_head _ 3 _ _ _ y ?o3 fun n3 => canon_head _ 2 _ _ _ y ?e2 fun n2 => canon_head _ 1 _ _ _ y ?o1 fun n1 => canon_head _ 0 _ _ _ y ?e0 fun n0 => ?z
  case z => exfalso; omega
  case o15 | o13 | o11 | o9 | o7 | o5 | o3 | o1 =>
    intro x
    simp only [View.readAt_eq_ld, harg3.read_unread, harg5.read_unread, harg14.read_unread]
    exact pieceO x2 x4 xo13 _ _ _ _ _ (by decide) _ _ _ _ _ x
  case e14 | e12 | e10 | e8 | e6 | e4 | e2 | e0 =>
    intro x
    simp only [View.readAt_eq_ld, harg3.read_unread, harg5.read_unread, harg14.read_unread]
    exact pieceE x2 x4 xo13 _ _ _ _ _ (by decide) _ _ _ _ _ x

theorem out_B (hc0 : ¬cond0_0 i) (hc1 : cond0_1 i) (hc2 : cond0_2 i) (hc3 : ¬cond0_3 i) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 xo13 xs0 xs1 xs2 xs3 xs4 xs5 xs6
      = G13 x2 x4 xo13 := by
  funext y
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 xo13 xs0 xs1 xs2 xs3 xs4 xs5 xs6)]
  unfold kernelRun0_B
  dsimp only
  sl_unfold_words
  have hy : (y 0).val < 16 := (y 0).isLt
  refine canon_head _ 15 _ _ _ y ?o15 fun n15 => canon_head _ 14 _ _ _ y ?e14 fun n14 => canon_head _ 13 _ _ _ y ?o13 fun n13 => canon_head _ 12 _ _ _ y ?e12 fun n12 =>
    canon_head _ 11 _ _ _ y ?o11 fun n11 => canon_head _ 10 _ _ _ y ?e10 fun n10 => canon_head _ 9 _ _ _ y ?o9 fun n9 => canon_head _ 8 _ _ _ y ?e8 fun n8 =>
    canon_head _ 7 _ _ _ y ?o7 fun n7 => canon_head _ 6 _ _ _ y ?e6 fun n6 => canon_head _ 5 _ _ _ y ?o5 fun n5 => canon_head _ 4 _ _ _ y ?e4 fun n4 =>
    canon_head _ 3 _ _ _ y ?o3 fun n3 => canon_head _ 2 _ _ _ y ?e2 fun n2 => canon_head _ 1 _ _ _ y ?o1 fun n1 => canon_head _ 0 _ _ _ y ?e0 fun n0 => ?z
  case z => exfalso; omega
  case o15 | o13 | o11 | o9 | o7 | o5 | o3 | o1 =>
    intro x
    simp only [View.readAt_eq_ld, harg3.read_unread, harg5.read_unread, harg14.read_unread]
    exact pieceO x2 x4 xo13 _ _ _ _ _ (by decide) _ _ _ _ _ x
  case e14 | e12 | e10 | e8 | e6 | e4 | e2 | e0 =>
    intro x
    simp only [View.readAt_eq_ld, harg3.read_unread, harg5.read_unread, harg14.read_unread]
    exact pieceE x2 x4 xo13 _ _ _ _ _ (by decide) _ _ _ _ _ x

theorem out_A (hc0 : cond0_0 i) (hc1 : cond0_1 i) (hc2 : cond0_2 i) (hc3 : ¬cond0_3 i) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8
      = G13 x2 x4 (k0_pay23 (F := Ideal)) := by
  funext y
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8)]
  unfold kernelRun0_A
  dsimp only
  unfold kernelRun0_A.sl.H13_16 kernelRun0_A.sl.H13_15 kernelRun0_A.sl.H13_14 kernelRun0_A.sl.H13_13
    kernelRun0_A.sl.H13_12 kernelRun0_A.sl.H13_11 kernelRun0_A.sl.H13_10 kernelRun0_A.sl.H13_9
    kernelRun0_A.sl.H13_8 kernelRun0_A.sl.H13_7 kernelRun0_A.sl.H13_6 kernelRun0_A.sl.H13_5
    kernelRun0_A.sl.H13_4 kernelRun0_A.sl.H13_3 kernelRun0_A.sl.H13_2 kernelRun0_A.sl.H13_1
  have hy : (y 0).val < 16 := (y 0).isLt
  refine canon_head _ 15 _ _ _ y ?o15 fun n15 => canon_head _ 14 _ _ _ y ?e14 fun n14 => canon_head _ 13 _ _ _ y ?o13 fun n13 => canon_head _ 12 _ _ _ y ?e12 fun n12 =>
    canon_head _ 11 _ _ _ y ?o11 fun n11 => canon_head _ 10 _ _ _ y ?e10 fun n10 => canon_head _ 9 _ _ _ y ?o9 fun n9 => canon_head _ 8 _ _ _ y ?e8 fun n8 =>
    canon_head _ 7 _ _ _ y ?o7 fun n7 => canon_head _ 6 _ _ _ y ?e6 fun n6 => canon_head _ 5 _ _ _ y ?o5 fun n5 => canon_head _ 4 _ _ _ y ?e4 fun n4 =>
    canon_head _ 3 _ _ _ y ?o3 fun n3 => canon_head _ 2 _ _ _ y ?e2 fun n2 => canon_head _ 1 _ _ _ y ?o1 fun n1 => canon_head _ 0 _ _ _ y ?e0 fun n0 => ?z
  case z => exfalso; omega
  case o15 | o13 | o11 | o9 | o7 | o5 | o3 | o1 =>
    intro x
    try simp (decide := true) only [kernelRun0_A.sl.r_265, kernelRun0_A.sl.r_269, kernelRun0_A.sl.v1459, kernelRun0_A.sl.v1466, kernelRun0_A.sl.v1477, kernelRun0_A.sl.v1484, kernelRun0_A.sl.v1495, kernelRun0_A.sl.v1502, kernelRun0_A.sl.v1513, kernelRun0_A.sl.v1520, kernelRun0_A.sl.v1531, kernelRun0_A.sl.v1538, kernelRun0_A.sl.v1549, kernelRun0_A.sl.v1556, kernelRun0_A.sl.v1567, kernelRun0_A.sl.v1574, kernelRun0_A.sl.v1585, kernelRun0_A.sl.v1592, kernelRun0_A.sl.H13_16, kernelRun0_A.sl.H13_15, kernelRun0_A.sl.H13_14, kernelRun0_A.sl.H13_13, kernelRun0_A.sl.H13_12, kernelRun0_A.sl.H13_11, kernelRun0_A.sl.H13_10, kernelRun0_A.sl.H13_9, kernelRun0_A.sl.H13_8, kernelRun0_A.sl.H13_7, kernelRun0_A.sl.H13_6, kernelRun0_A.sl.H13_5, kernelRun0_A.sl.H13_4, kernelRun0_A.sl.H13_3, kernelRun0_A.sl.H13_2, kernelRun0_A.sl.H13_1, ↓View.readCov_skip, ↓View.readCov_fill]
    sl_unfold_words
    simp only [View.readAt_eq_ld, harg3.read_unread, harg5.read_unread]
    exact pieceO x2 x4 (k0_pay23 (F := Ideal)) _ _ _ _ _ (by decide) _ _ _ _ _ x
  case e14 | e12 | e10 | e8 | e6 | e4 | e2 | e0 =>
    intro x
    try simp (decide := true) only [kernelRun0_A.sl.r_265, kernelRun0_A.sl.r_269, kernelRun0_A.sl.v1459, kernelRun0_A.sl.v1466, kernelRun0_A.sl.v1477, kernelRun0_A.sl.v1484, kernelRun0_A.sl.v1495, kernelRun0_A.sl.v1502, kernelRun0_A.sl.v1513, kernelRun0_A.sl.v1520, kernelRun0_A.sl.v1531, kernelRun0_A.sl.v1538, kernelRun0_A.sl.v1549, kernelRun0_A.sl.v1556, kernelRun0_A.sl.v1567, kernelRun0_A.sl.v1574, kernelRun0_A.sl.v1585, kernelRun0_A.sl.v1592, kernelRun0_A.sl.H13_16, kernelRun0_A.sl.H13_15, kernelRun0_A.sl.H13_14, kernelRun0_A.sl.H13_13, kernelRun0_A.sl.H13_12, kernelRun0_A.sl.H13_11, kernelRun0_A.sl.H13_10, kernelRun0_A.sl.H13_9, kernelRun0_A.sl.H13_8, kernelRun0_A.sl.H13_7, kernelRun0_A.sl.H13_6, kernelRun0_A.sl.H13_5, kernelRun0_A.sl.H13_4, kernelRun0_A.sl.H13_3, kernelRun0_A.sl.H13_2, kernelRun0_A.sl.H13_1, ↓View.readCov_skip, ↓View.readCov_fill]
    sl_unfold_words
    simp only [View.readAt_eq_ld, harg3.read_unread, harg5.read_unread]
    exact pieceE x2 x4 (k0_pay23 (F := Ideal)) _ _ _ _ _ (by decide) _ _ _ _ _ x

end

end Cert.Kernel10Ideal.MixDw

end
-- ==== Proof.MixDw.lean ====
module

public import proofs.«01_k».proof.Defs
public import proofs.«01_k».proof.Proof.MixPoint
public import proofs.«01_k».proof.Proof.Gen.Kernel10Ideal.Value
public import proofs.«01_k».proof.Proof.Gen.Reference10Ideal.Run

/-!
The gradient to the spatial gating weights that the mixer's backward kernel returns. The first 64 of its 65 points each
add one chunk's term to the sum, which stays in place; the last point keeps the lower triangle.
-/

@[expose] public section

set_option maxRecDepth 16384

noncomputable section

namespace Cert.Kernel10Ideal.MixDw

open Idealize.ShloMosaic Idealize.ShloMosaic.TcCoe Idealize.ShloMosaic.Tactic Idealize.ShloMosaic.StableHlo
open Idealize.SL.Sem
open Cert.Kernel10Ideal Cert.Kernel10Ideal.Gen Cert.Kernel10Ideal.Value Cert.MixTerms

variable (m : (ℓ : Loc nD τ sig) → Buf (Elt Ideal) ℓ)

/-! ## What each point reads -/

theorem V_arg0 (c : Dev nD) : V m c main_arg0 = m ((c : Thread nD τ).loc main_arg0) := by
  first | rfl | (unfold V; after_results <;> rfl)
theorem V_arg1 (c : Dev nD) : V m c main_arg1 = m ((c : Thread nD τ).loc main_arg1) := by
  first | rfl | (unfold V; after_results <;> rfl)

theorem index2 : ∀ t : Fin cfg0.N, t.val < 64 → win0_2.index t 0 = t.val ∧ win0_2.index t 1 = 0 :=
  (by decide +kernel : ∀ t : Fin grid0.N, t.val < 64 → win0_2.index t 0 = t.val ∧ win0_2.index t 1 = 0)
theorem index4 : ∀ t : Fin cfg0.N, t.val < 64 → win0_4.index t 0 = t.val ∧ win0_4.index t 1 = 0 :=
  (by decide +kernel : ∀ t : Fin grid0.N, t.val < 64 → win0_4.index t 0 = t.val ∧ win0_4.index t 1 = 0)
theorem index13 : ∀ t : Fin cfg0.N, win0_13.index t 0 = 0 ∧ win0_13.index t 1 = 0 ∧ win0_13.index t 2 = 0 :=
  (by decide +kernel : ∀ t : Fin grid0.N, win0_13.index t 0 = 0 ∧ win0_13.index t 1 = 0 ∧ win0_13.index t 2 = 0)

theorem blk2 (c : Dev nD) (t : Fin cfg0.N) (ht : t.val < 64) (r : Fin 128) (k : Fin 5632) :
    iblk m c 2 t (ix2 r k : S128x5632.Idx) = m ((c : Thread nD τ).loc main_arg0) (ix2 (tok ⟨t.val, ht⟩ r) k) := by
  unfold iblk; rw [View.read_apply]
  show V m c main_arg0 _ = _
  rw [V_arg0]
  congr 1; funext a; apply Fin.ext
  match a with
  | ⟨0, _⟩ => show win0_2.index t 0 * 128 + 1 * r.val = 128 * t.val + r.val; rw [(index2 t ht).1]; omega
  | ⟨1, _⟩ => show win0_2.index t 1 * 5632 + 1 * k.val = k.val; rw [(index2 t ht).2]; omega

theorem blk4 (c : Dev nD) (t : Fin cfg0.N) (ht : t.val < 64) (r : Fin 128) (k : Fin 2048) :
    iblk m c 4 t (ix2 r k : S128x2048.Idx) = m ((c : Thread nD τ).loc main_arg1) (ix2 (tok ⟨t.val, ht⟩ r) k) := by
  unfold iblk; rw [View.read_apply]
  show V m c main_arg1 _ = _
  rw [V_arg1]
  congr 1; funext a; apply Fin.ext
  match a with
  | ⟨0, _⟩ => show win0_4.index t 0 * 128 + 1 * r.val = 128 * t.val + r.val; rw [(index4 t ht).1]; omega
  | ⟨1, _⟩ => show win0_4.index t 1 * 2048 + 1 * k.val = k.val; rw [(index4 t ht).2]; omega

theorem term_blk (c : Dev nD) (t : Fin cfg0.N) (ht : t.val < 64) (h : Fin 16) (a b : Fin 128) :
    term (iblk m c 2 t) (iblk m c 4 t) h a b
      = part (m ((c : Thread nD τ).loc main_arg0)) (m ((c : Thread nD τ).loc main_arg1)) h a b ⟨t.val, ht⟩ := by
  unfold term part
  refine Finset.sum_congr rfl fun q _ => ?_
  rw [blk4 m c t ht, blk2 m c t ht, blk2 m c t ht, blk2 m c t ht]
  have e (n : ℕ) : n + 64 * h.val + q.val = n + (lane h q).val := Nat.add_assoc _ _ _
  simp only [e]
  rfl

/-! ## The sum over the points -/

/-- Chunk `s`'s term, zero past the last chunk. -/
def Tm (c : Dev nD) (i : S16x128x128.Idx) (s : ℕ) : EReal :=
  if h : s < 64 then part (m ((c : Thread nD τ).loc main_arg0)) (m ((c : Thread nD τ).loc main_arg1)) (i 0) (i 1) (i 2) ⟨s, h⟩ else 0

theorem step (c : Dev nD) (t : Fin cfg0.N) (ht : t.val < 64) (X : Vec Ideal S16x128x128 .f32) (i : S16x128x128.Idx) :
    G13 (iblk m c 2 t) (iblk m c 4 t) X i = X i + Tm m c i t.val := by
  unfold G13 Tm
  rw [dif_pos ht]
  exact congrArg _ (term_blk m c t ht (i 0) (i 1) (i 2))

theorem pay23_apply (i : S16x128x128.Idx) : k0_pay23 (F := Ideal) i = 0 := by
  pointwise [k0_pay23]

theorem acc_eq (c : Dev nD) (i : S16x128x128.Idx) :
    ∀ (n : ℕ) (_ : n < 64) (h : n < cfg0.N), (outsAt0 m c n h).2.2.2.2.1 i = ∑ s ∈ Finset.range (n + 1), Tm m c i s
  | 0, _, h => by
    refine (congrArg (fun o => o.2.2.2.2.1 i) (outsAt0_A m c ⟨0, h⟩ (by dsimp only) (by dsimp only; omega) (by dsimp only; omega) (by dsimp only; omega))).trans ?_
    dsimp only
    rw [out_A, step m c ⟨0, h⟩ (by dsimp only; omega), pay23_apply, zero_add, Finset.sum_range_one]
  | n + 1, hn, h => by
    rw [Finset.sum_range_succ, ← acc_eq c i n (by omega) (Nat.lt_of_succ_lt h)]
    by_cases h1 : n + 1 < 2
    · refine (congrArg (fun o => o.2.2.2.2.1 i) (outsAt0_B m c ⟨n + 1, h⟩ (by dsimp only; omega) (by dsimp only; omega) (by dsimp only; omega) (by dsimp only; omega))).trans ?_
      dsimp only
      rw [out_B, step m c ⟨n + 1, h⟩ hn]
      rfl
    · refine (congrArg (fun o => o.2.2.2.2.1 i) (outsAt0_C m c ⟨n + 1, h⟩ (by dsimp only; omega) (by dsimp only; omega) (by dsimp only; omega) (by dsimp only; omega))).trans ?_
      dsimp only
      rw [out_C, step m c ⟨n + 1, h⟩ hn]
      rfl

def Gm (c : Dev nD) : Buf (Elt Ideal) ((c : Thread nD τ).loc main_v11_4) :=
  gw (m ((c : Thread nD τ).loc main_arg0)) (m ((c : Thread nD τ).loc main_arg1))

theorem out_eq (c : Dev nD) (n : ℕ) (e : n = 63) (h : n + 1 < cfg0.N) (i : S16x128x128.Idx) : (outsAt0 m c (n + 1) h).2.2.2.2.1 i = Gm m c i := by
  refine (congrArg (fun o => o.2.2.2.2.1 i) (outsAt0_D m c ⟨n + 1, h⟩ (by dsimp only; omega) (by dsimp only; omega) (by dsimp only; omega) (by dsimp only; omega))).trans ?_
  dsimp only
  rw [out_D]
  have a := acc_eq m c i n (by omega) (Nat.lt_of_succ_lt h)
  rw [show n + 1 = 64 by omega, Finset.sum_range] at a
  show (if (i 2).val ≤ (i 1).val then (outsAt0 m c n (Nat.lt_of_succ_lt h)).2.2.2.2.1 i else 0) = if (i 2).val ≤ (i 1).val then _ else 0
  rw [a]
  refine congrArg (fun x => if (i 2).val ≤ (i 1).val then x else 0) (Finset.sum_congr rfl fun n _ => ?_)
  exact dif_pos n.isLt

/-! ## The whole array -/

theorem flushed_eq (c : Dev nD) (t : Fin cfg0.N) (hf : (cfg0.win 13).flush t = true) :
    (dats m 0 c).flushed 13 t = ((cfg0.win 13).blk t).view.read (Elt Ideal) (Gm m c) := by
  have hN : t.val < 65 := lt_of_lt_of_eq t.isLt (show cfg0.N = 65 from N_0)
  have hm : t.val % 65 = 64 := (flush0_13 t).mp hf
  show (cfg0.win 13).cut (grid0.coords t) ((dats m 0 c).after 13 t) = _
  rw [after0_13]
  funext y
  have hy0 : (y 0).val < 16 := (y 0).isLt
  have hy1 : (y 1).val < 128 := (y 1).isLt
  have hy2 : (y 2).val < 128 := (y 2).isLt
  have e1 : (cfg0.win 13).xinj (grid0.coords t) y = (ix3 (⟨(y 0).val, hy0⟩ : Fin 16) (⟨(y 1).val, hy1⟩ : Fin 128) (⟨(y 2).val, hy2⟩ : Fin 128) : S16x128x128.Idx) := by
    funext a; apply Fin.ext
    match a with
    | ⟨0, _⟩ => rfl
    | ⟨1, _⟩ => rfl
    | ⟨2, _⟩ => rfl
  have e2 : ((cfg0.win 13).blk t).view.emb y = (ix3 (⟨(y 0).val, hy0⟩ : Fin 16) (⟨(y 1).val, hy1⟩ : Fin 128) (⟨(y 2).val, hy2⟩ : Fin 128) : S16x128x128.Idx) := by
    funext a; apply Fin.ext
    match a with
    | ⟨0, _⟩ => show win0_13.index t 0 * 16 + 1 * (y 0).val = (y 0).val; rw [(index13 t).1]; omega
    | ⟨1, _⟩ => show win0_13.index t 1 * 128 + 1 * (y 1).val = (y 1).val; rw [(index13 t).2.1]; omega
    | ⟨2, _⟩ => show win0_13.index t 2 * 128 + 1 * (y 2).val = (y 2).val; rw [(index13 t).2.2]; omega
  refine (congrArg (outsAt0 m c t.val t.isLt).2.2.2.2.1 e1).trans ?_
  refine Eq.trans ?_ (congrArg (Gm m c) e2).symm
  obtain ⟨n, hn⟩ := t
  obtain ⟨k, hk⟩ : ∃ k, n = k + 1 := ⟨n - 1, by dsimp only at hm hN; omega⟩
  subst hk
  exact out_eq m c k (by dsimp only at hm hN; omega) hn _

theorem covered13 (i : S16x128x128.Idx) : ∃ t : Fin cfg0.N, (cfg0.win 13).flush t = true ∧ i ∈ ((cfg0.win 13).blk t).view.set := by
  have h0 : (i 0).val < 16 := (i 0).isLt
  have h1 : (i 1).val < 128 := (i 1).isLt
  have h2 : (i 2).val < 128 := (i 2).isLt
  have hN : 64 < cfg0.N := by rw [show cfg0.N = 65 from N_0]; omega
  refine ⟨⟨64, hN⟩, (flush0_13 _).2 rfl, ?_⟩
  show i ∈ ((View.whole main_v11_4).slice (win0_13.rect ⟨64, hN⟩)).set
  rw [View.set_slice_whole, Rect.mem_set_unit]
  have e := index13 ⟨64, hN⟩
  intro a
  match a with
  | ⟨0, _⟩ => show win0_13.index ⟨64, hN⟩ 0 * 16 ≤ (i 0).val ∧ (i 0).val < win0_13.index ⟨64, hN⟩ 0 * 16 + 16; rw [e.1]; omega
  | ⟨1, _⟩ => show win0_13.index ⟨64, hN⟩ 1 * 128 ≤ (i 1).val ∧ (i 1).val < win0_13.index ⟨64, hN⟩ 1 * 128 + 128; rw [e.2.1]; omega
  | ⟨2, _⟩ => show win0_13.index ⟨64, hN⟩ 2 * 128 ≤ (i 2).val ∧ (i 2).val < win0_13.index ⟨64, hN⟩ 2 * 128 + 128; rw [e.2.2]; omega

theorem final (c : Dev nD) : (dats m 0 c).arrAt 13 cfg0.N = Gm m c :=
  (dats m 0 c).arrAt_eq_of_cover 13 (Gm m c) (fun t hf => flushed_eq m c t hf) (fun i => covered13 i)

/-- The value claim of the gradient to the spatial gating weights. -/
theorem algebraic : algebraic_Kernel10Ideal_Reference10Ideal := by
  intro m g m' g' _ hag
  refine ⟨fun c => Gm m c, (θ_run _ _ _).mono (fun r h c => ⟨(h c).2.2.2.2.1.trans (final m c), (h c).2.2.2.2.2.2⟩) (run_blocks m g),
    (θ_run _ _ _).mono (fun r h c => ⟨(h c).1.trans ?_, (h c).2⟩) (Cert.Reference10Ideal.Value.run m' g')⟩
  rw [Cert.Reference10Ideal.Read.val_main_v45_eq, (hag c).1, (hag c).2.1]
  exact reference_eq _ _

end Cert.Kernel10Ideal.MixDw

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel10
public import proofs.«01_k».proof.Proof.Gen.Kernel10.Frame
public import proofs.«01_k».proof.Proof.DwIn
public import proofs.«01_k».proof.Proof.DhNorm
public import proofs.«01_k».proof.Proof.DwOut
public import proofs.«01_k».proof.Proof.Dmix
public import proofs.«01_k».proof.Proof.NormProj
public import proofs.«01_k».proof.Proof.OutProj
public import proofs.«01_k».proof.Proof.OutProjLoss
public import proofs.«01_k».proof.Proof.DhNorm1
public import proofs.«01_k».proof.Proof.MixDw
public import Idealize.ShloMosaic.Adequacy
public import Idealize.ShloMosaic.Init

@[expose] public section

noncomputable section

namespace Cert.Proof

open Idealize.ShloMosaic Idealize.SL.Sem

/-- Everything that is claimed, in the order of the claim. -/
theorem claim : Cert.Claim :=
  ⟨Cert.Kernel.Gen.facts,
    Cert.KernelIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10Ideal.Gen.facts,
    Cert.Reference10Ideal.Gen.facts,
    Cert.Kernel10.Gen.facts,
    fun m ρ _ => Cert.Kernel.Gen.frame m ρ,
    fun m ρ _ => Cert.KernelIdeal.Gen.frame m ρ,
    fun m ρ _ => Cert.Kernel2.Gen.frame m ρ,
    fun m ρ _ => Cert.Kernel2Ideal.Gen.frame m ρ,
    fun m ρ _ => (θ_run Cert.Reference2Ideal.defs _ _).mono (fun r h => ⟨fun c => (h c).2, Idealize.ShloMosaic.sem_eq_zero_of_no_sems (by decide) r.2⟩) (Cert.Reference2Ideal.Value.run m ρ),
    fun m ρ _ => Cert.Kernel3.Gen.frame m ρ,
    fun m ρ _ => Cert.Kernel3Ideal.Gen.frame m ρ,
    fun m ρ _ => (θ_run Cert.Reference3Ideal.defs _ _).mono (fun r h => ⟨fun c => (h c).2.2.2, Idealize.ShloMosaic.sem_eq_zero_of_no_sems (by decide) r.2⟩) (Cert.Reference3Ideal.Value.run m ρ),
    fun m ρ _ => Cert.Kernel4.Gen.frame m ρ,
    fun m ρ _ => Cert.Kernel4Ideal.Gen.frame m ρ,
    fun m ρ _ => (θ_run Cert.Reference4Ideal.defs _ _).mono (fun r h => ⟨fun c => (h c).2, Idealize.ShloMosaic.sem_eq_zero_of_no_sems (by decide) r.2⟩) (Cert.Reference4Ideal.Value.run m ρ),
    fun m ρ _ => Cert.Kernel5.Gen.frame m ρ,
    fun m ρ _ => Cert.Kernel5Ideal.Gen.frame m ρ,
    fun m ρ _ => (θ_run Cert.Reference5Ideal.defs _ _).mono (fun r h => ⟨fun c => (h c).2, Idealize.ShloMosaic.sem_eq_zero_of_no_sems (by decide) r.2⟩) (Cert.Reference5Ideal.Value.run m ρ),
    fun m ρ _ => Cert.Kernel6.Gen.frame m ρ,
    fun m ρ _ => Cert.Kernel6Ideal.Gen.frame m ρ,
    fun m ρ _ => (θ_run Cert.Reference6Ideal.defs _ _).mono (fun r h => ⟨fun c => (h c).2.2, Idealize.ShloMosaic.sem_eq_zero_of_no_sems (by decide) r.2⟩) (Cert.Reference6Ideal.Value.run m ρ),
    fun m ρ _ => Cert.Kernel7.Gen.frame m ρ,
    fun m ρ _ => Cert.Kernel7Ideal.Gen.frame m ρ,
    fun m ρ _ => (θ_run Cert.Reference7Ideal.defs _ _).mono (fun r h => ⟨fun c => (h c).2, Idealize.ShloMosaic.sem_eq_zero_of_no_sems (by decide) r.2⟩) (Cert.Reference7Ideal.Value.run m ρ),
    fun m ρ _ => Cert.Kernel8.Gen.frame m ρ,
    fun m ρ _ => Cert.Kernel8Ideal.Gen.frame m ρ,
    fun m ρ _ => (θ_run Cert.Reference8Ideal.defs _ _).mono (fun r h => ⟨fun c => (h c).2.2.2.2, Idealize.ShloMosaic.sem_eq_zero_of_no_sems (by decide) r.2⟩) (Cert.Reference8Ideal.Value.run m ρ),
    fun m ρ _ => Cert.Kernel9.Gen.frame m ρ,
    fun m ρ _ => Cert.Kernel9Ideal.Gen.frame m ρ,
    fun m ρ _ => (θ_run Cert.Reference9Ideal.defs _ _).mono (fun r h => ⟨fun c => (h c).2.2, Idealize.ShloMosaic.sem_eq_zero_of_no_sems (by decide) r.2⟩) (Cert.Reference9Ideal.Value.run m ρ),
    fun m ρ _ => Cert.Kernel10Ideal.Gen.frame m ρ,
    fun m ρ _ => (θ_run Cert.Reference10Ideal.defs _ _).mono (fun r h => ⟨fun c => (h c).2, Idealize.ShloMosaic.sem_eq_zero_of_no_sems (by decide) r.2⟩) (Cert.Reference10Ideal.Value.run m ρ),
    fun m ρ _ => Cert.Kernel10.Gen.frame m ρ,
    trivial,
    trivial,
    Cert.Kernel2Ideal.DwIn.algebraic,
    trivial,
    Cert.Kernel3Ideal.DhNorm.algebraic,
    trivial,
    Cert.Kernel4Ideal.DwOut.algebraic,
    trivial,
    Cert.Kernel5Ideal.Dmix.algebraic,
    trivial,
    Cert.Kernel6Ideal.NormProj.algebraic,
    trivial,
    Cert.Kernel7Ideal.OutProj.algebraic,
    trivial,
    Cert.Kernel8Ideal.OutProjLoss.algebraic,
    trivial,
    Cert.Kernel9Ideal.DhNorm1.algebraic,
    trivial,
    Cert.Kernel10Ideal.MixDw.algebraic⟩

end Cert.Proof

end
